-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S4096x256 : Shape := ⟨2, ![4096, 256]⟩
abbrev S4x4096x256 : Shape := ⟨3, ![4, 4096, 256]⟩
abbrev S32x128x256 : Shape := ⟨3, ![32, 128, 256]⟩
abbrev S32x8x128 : Shape := ⟨3, ![32, 8, 128]⟩
abbrev S4 : Shape := ⟨1, ![4]⟩
abbrev S32 : Shape := ⟨1, ![32]⟩
abbrev S_ : Shape := ⟨0, ![]⟩
abbrev S1 : Shape := ⟨1, ![1]⟩
abbrev S1x4096x256 : Shape := ⟨3, ![1, 4096, 256]⟩
abbrev S128x256 : Shape := ⟨2, ![128, 256]⟩
abbrev S1x128x256 : Shape := ⟨3, ![1, 128, 256]⟩
abbrev S1x1x1 : Shape := ⟨3, ![1, 1, 1]⟩
abbrev S1x8x128 : Shape := ⟨3, ![1, 8, 128]⟩
abbrev S8x128 : Shape := ⟨2, ![8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S4x4096x256, .f32⟩
  | .local _ .vmem, ⟨3, _⟩ => ⟨S32x128x256, .bf16⟩
  | .local _ .vmem, ⟨4, _⟩ => ⟨S32x128x256, .bf16⟩
  | .local _ .vmem, ⟨5, _⟩ => ⟨S32x8x128, .f32⟩
  | _, _ => ⟨S128x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c0_i32_280 : BitVec 32) : Fin 2 → Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v407 : BitVec 32 := Scalar.addi v2 c0_i32_280
  let c32_i32_281 : BitVec 32 := 32#32
  let c0_i32_282 : BitVec 32 := 0#32
  let v408 : BitVec 1 := Scalar.cmpi .eq c32_i32_281 c0_i32_282
  let c1_i32_283 : BitVec 32 := 1#32
  let v409 : BitVec 32 := Scalar.select v408 c1_i32_283 c32_i32_281
  let v410 : BitVec 32 := Scalar.remsi v407 v409
  let c0_i32_285 : BitVec 32 := 0#32
  let v412 : BitVec 1 := Scalar.cmpi .slt v410 c0_i32_285
  let c0_i32_286 : BitVec 32 := 0#32
  let v413 : BitVec 1 := Scalar.cmpi .slt v409 c0_i32_286
  let v414 : BitVec 1 := Scalar.xori v412 v413
  let c0_i32_284 : BitVec 32 := 0#32
  let v411 : BitVec 1 := Scalar.cmpi .ne v410 c0_i32_284
  let v415 : BitVec 1 := Scalar.andi v414 v411
  let v416 : BitVec 32 := Scalar.addi v410 v409
  let v417 : BitVec 32 := Scalar.select v415 v416 v410
  let c256_i32 : BitVec 32 := 256#32
  let v418 : BitVec 32 := Scalar.muli v417 c256_i32
  ![0, v418.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v522 : Index := Scalar.indexCast v2
  let c0_363 : Index := 0#32
  let c0_364 : Index := 0#32
  ![v522.toNat, 0, 0]
def k0_off3 (d0 : Dev nD) (c1_i32_365 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v526 : BitVec 32 := Scalar.addi v2 c1_i32_365
  let c32_i32_366 : BitVec 32 := 32#32
  let c0_i32_367 : BitVec 32 := 0#32
  let v527 : BitVec 1 := Scalar.cmpi .eq c32_i32_366 c0_i32_367
  let c1_i32_368 : BitVec 32 := 1#32
  let v528 : BitVec 32 := Scalar.select v527 c1_i32_368 c32_i32_366
  let v529 : BitVec 32 := Scalar.remsi v526 v528
  let c0_i32_370 : BitVec 32 := 0#32
  let v531 : BitVec 1 := Scalar.cmpi .slt v529 c0_i32_370
  let c0_i32_371 : BitVec 32 := 0#32
  let v532 : BitVec 1 := Scalar.cmpi .slt v528 c0_i32_371
  let v533 : BitVec 1 := Scalar.xori v531 v532
  let c0_i32_369 : BitVec 32 := 0#32
  let v530 : BitVec 1 := Scalar.cmpi .ne v529 c0_i32_369
  let v534 : BitVec 1 := Scalar.andi v533 v530
  let v535 : BitVec 32 := Scalar.addi v529 v528
  let v536 : BitVec 32 := Scalar.select v534 v535 v529
  let v584 : Index := Scalar.indexCast v536
  let c0_404 : Index := 0#32
  let c0_405 : Index := 0#32
  ![v584.toNat, 0, 0]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_409 : BitVec 32 := 0#32
  let c0_i32_410 : BitVec 32 := 0#32
  ![v2.toNat, 0, 0]
def k0_off6 (d0 : Dev nD) (c1_i32_365 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v526 : BitVec 32 := Scalar.addi v2 c1_i32_365
  let c32_i32_366 : BitVec 32 := 32#32
  let c0_i32_367 : BitVec 32 := 0#32
  let v527 : BitVec 1 := Scalar.cmpi .eq c32_i32_366 c0_i32_367
  let c1_i32_368 : BitVec 32 := 1#32
  let v528 : BitVec 32 := Scalar.select v527 c1_i32_368 c32_i32_366
  let v529 : BitVec 32 := Scalar.remsi v526 v528
  let c0_i32_370 : BitVec 32 := 0#32
  let v531 : BitVec 1 := Scalar.cmpi .slt v529 c0_i32_370
  let c0_i32_371 : BitVec 32 := 0#32
  let v532 : BitVec 1 := Scalar.cmpi .slt v528 c0_i32_371
  let v533 : BitVec 1 := Scalar.xori v531 v532
  let c0_i32_369 : BitVec 32 := 0#32
  let v530 : BitVec 1 := Scalar.cmpi .ne v529 c0_i32_369
  let v534 : BitVec 1 := Scalar.andi v533 v530
  let v535 : BitVec 32 := Scalar.addi v529 v528
  let v536 : BitVec 32 := Scalar.select v534 v535 v529
  let c0_i32_411 : BitVec 32 := 0#32
  let c0_i32_412 : BitVec 32 := 0#32
  ![v536.toNat, 0, 0]
def k0_dev32 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_365 : BitVec 32 := 1#32
  let v526 : BitVec 32 := Scalar.addi v2 c1_i32_365
  let c32_i32_366 : BitVec 32 := 32#32
  let c0_i32_367 : BitVec 32 := 0#32
  let v527 : BitVec 1 := Scalar.cmpi .eq c32_i32_366 c0_i32_367
  let c1_i32_368 : BitVec 32 := 1#32
  let v528 : BitVec 32 := Scalar.select v527 c1_i32_368 c32_i32_366
  let v529 : BitVec 32 := Scalar.remsi v526 v528
  let c0_i32_370 : BitVec 32 := 0#32
  let v531 : BitVec 1 := Scalar.cmpi .slt v529 c0_i32_370
  let c0_i32_371 : BitVec 32 := 0#32
  let v532 : BitVec 1 := Scalar.cmpi .slt v528 c0_i32_371
  let v533 : BitVec 1 := Scalar.xori v531 v532
  let c0_i32_369 : BitVec 32 := 0#32
  let v530 : BitVec 1 := Scalar.cmpi .ne v529 c0_i32_369
  let v534 : BitVec 1 := Scalar.andi v533 v530
  let v535 : BitVec 32 := Scalar.addi v529 v528
  let v536 : BitVec 32 := Scalar.select v534 v535 v529
  let c1_i32_407 : BitVec 32 := 1#32
  let v588 : BitVec 32 := Scalar.muli v536 c1_i32_407
  let v589 : BitVec 32 := Scalar.addi c0_i32_408 v588
  v589.toNat
def k0_dev33 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_413 : BitVec 32 := 2#32
  let v598 : BitVec 32 := Scalar.addi v2 c2_i32_413
  let c32_i32_414 : BitVec 32 := 32#32
  let c0_i32_415 : BitVec 32 := 0#32
  let v599 : BitVec 1 := Scalar.cmpi .eq c32_i32_414 c0_i32_415
  let c1_i32_416 : BitVec 32 := 1#32
  let v600 : BitVec 32 := Scalar.select v599 c1_i32_416 c32_i32_414
  let v601 : BitVec 32 := Scalar.remsi v598 v600
  let c0_i32_418 : BitVec 32 := 0#32
  let v603 : BitVec 1 := Scalar.cmpi .slt v601 c0_i32_418
  let c0_i32_419 : BitVec 32 := 0#32
  let v604 : BitVec 1 := Scalar.cmpi .slt v600 c0_i32_419
  let v605 : BitVec 1 := Scalar.xori v603 v604
  let c0_i32_417 : BitVec 32 := 0#32
  let v602 : BitVec 1 := Scalar.cmpi .ne v601 c0_i32_417
  let v606 : BitVec 1 := Scalar.andi v605 v602
  let v607 : BitVec 32 := Scalar.addi v601 v600
  let v608 : BitVec 32 := Scalar.select v606 v607 v601
  let c1_i32_455 : BitVec 32 := 1#32
  let v660 : BitVec 32 := Scalar.muli v608 c1_i32_455
  let v661 : BitVec 32 := Scalar.addi c0_i32_456 v660
  v661.toNat
def k0_dev34 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_461 : BitVec 32 := 3#32
  let v670 : BitVec 32 := Scalar.addi v2 c3_i32_461
  let c32_i32_462 : BitVec 32 := 32#32
  let c0_i32_463 : BitVec 32 := 0#32
  let v671 : BitVec 1 := Scalar.cmpi .eq c32_i32_462 c0_i32_463
  let c1_i32_464 : BitVec 32 := 1#32
  let v672 : BitVec 32 := Scalar.select v671 c1_i32_464 c32_i32_462
  let v673 : BitVec 32 := Scalar.remsi v670 v672
  let c0_i32_466 : BitVec 32 := 0#32
  let v675 : BitVec 1 := Scalar.cmpi .slt v673 c0_i32_466
  let c0_i32_467 : BitVec 32 := 0#32
  let v676 : BitVec 1 := Scalar.cmpi .slt v672 c0_i32_467
  let v677 : BitVec 1 := Scalar.xori v675 v676
  let c0_i32_465 : BitVec 32 := 0#32
  let v674 : BitVec 1 := Scalar.cmpi .ne v673 c0_i32_465
  let v678 : BitVec 1 := Scalar.andi v677 v674
  let v679 : BitVec 32 := Scalar.addi v673 v672
  let v680 : BitVec 32 := Scalar.select v678 v679 v673
  let c1_i32_503 : BitVec 32 := 1#32
  let v732 : BitVec 32 := Scalar.muli v680 c1_i32_503
  let v733 : BitVec 32 := Scalar.addi c0_i32_504 v732
  v733.toNat
def k0_dev35 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_509 : BitVec 32 := 4#32
  let v742 : BitVec 32 := Scalar.addi v2 c4_i32_509
  let c32_i32_510 : BitVec 32 := 32#32
  let c0_i32_511 : BitVec 32 := 0#32
  let v743 : BitVec 1 := Scalar.cmpi .eq c32_i32_510 c0_i32_511
  let c1_i32_512 : BitVec 32 := 1#32
  let v744 : BitVec 32 := Scalar.select v743 c1_i32_512 c32_i32_510
  let v745 : BitVec 32 := Scalar.remsi v742 v744
  let c0_i32_514 : BitVec 32 := 0#32
  let v747 : BitVec 1 := Scalar.cmpi .slt v745 c0_i32_514
  let c0_i32_515 : BitVec 32 := 0#32
  let v748 : BitVec 1 := Scalar.cmpi .slt v744 c0_i32_515
  let v749 : BitVec 1 := Scalar.xori v747 v748
  let c0_i32_513 : BitVec 32 := 0#32
  let v746 : BitVec 1 := Scalar.cmpi .ne v745 c0_i32_513
  let v750 : BitVec 1 := Scalar.andi v749 v746
  let v751 : BitVec 32 := Scalar.addi v745 v744
  let v752 : BitVec 32 := Scalar.select v750 v751 v745
  let c1_i32_552 : BitVec 32 := 1#32
  let v804 : BitVec 32 := Scalar.muli v752 c1_i32_552
  let v805 : BitVec 32 := Scalar.addi c0_i32_553 v804
  v805.toNat
def k0_dev36 (d0 : Dev nD) : Nat :=
  let c0_i32_602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_558 : BitVec 32 := 5#32
  let v814 : BitVec 32 := Scalar.addi v2 c5_i32_558
  let c32_i32_559 : BitVec 32 := 32#32
  let c0_i32_560 : BitVec 32 := 0#32
  let v815 : BitVec 1 := Scalar.cmpi .eq c32_i32_559 c0_i32_560
  let c1_i32_561 : BitVec 32 := 1#32
  let v816 : BitVec 32 := Scalar.select v815 c1_i32_561 c32_i32_559
  let v817 : BitVec 32 := Scalar.remsi v814 v816
  let c0_i32_563 : BitVec 32 := 0#32
  let v819 : BitVec 1 := Scalar.cmpi .slt v817 c0_i32_563
  let c0_i32_564 : BitVec 32 := 0#32
  let v820 : BitVec 1 := Scalar.cmpi .slt v816 c0_i32_564
  let v821 : BitVec 1 := Scalar.xori v819 v820
  let c0_i32_562 : BitVec 32 := 0#32
  let v818 : BitVec 1 := Scalar.cmpi .ne v817 c0_i32_562
  let v822 : BitVec 1 := Scalar.andi v821 v818
  let v823 : BitVec 32 := Scalar.addi v817 v816
  let v824 : BitVec 32 := Scalar.select v822 v823 v817
  let c1_i32_601 : BitVec 32 := 1#32
  let v876 : BitVec 32 := Scalar.muli v824 c1_i32_601
  let v877 : BitVec 32 := Scalar.addi c0_i32_602 v876
  v877.toNat
def k0_dev37 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_607 : BitVec 32 := 6#32
  let v886 : BitVec 32 := Scalar.addi v2 c6_i32_607
  let c32_i32_608 : BitVec 32 := 32#32
  let c0_i32_609 : BitVec 32 := 0#32
  let v887 : BitVec 1 := Scalar.cmpi .eq c32_i32_608 c0_i32_609
  let c1_i32_610 : BitVec 32 := 1#32
  let v888 : BitVec 32 := Scalar.select v887 c1_i32_610 c32_i32_608
  let v889 : BitVec 32 := Scalar.remsi v886 v888
  let c0_i32_612 : BitVec 32 := 0#32
  let v891 : BitVec 1 := Scalar.cmpi .slt v889 c0_i32_612
  let c0_i32_613 : BitVec 32 := 0#32
  let v892 : BitVec 1 := Scalar.cmpi .slt v888 c0_i32_613
  let v893 : BitVec 1 := Scalar.xori v891 v892
  let c0_i32_611 : BitVec 32 := 0#32
  let v890 : BitVec 1 := Scalar.cmpi .ne v889 c0_i32_611
  let v894 : BitVec 1 := Scalar.andi v893 v890
  let v895 : BitVec 32 := Scalar.addi v889 v888
  let v896 : BitVec 32 := Scalar.select v894 v895 v889
  let c1_i32_650 : BitVec 32 := 1#32
  let v948 : BitVec 32 := Scalar.muli v896 c1_i32_650
  let v949 : BitVec 32 := Scalar.addi c0_i32_651 v948
  v949.toNat
def k0_dev38 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_656 : BitVec 32 := 7#32
  let v958 : BitVec 32 := Scalar.addi v2 c7_i32_656
  let c32_i32_657 : BitVec 32 := 32#32
  let c0_i32_658 : BitVec 32 := 0#32
  let v959 : BitVec 1 := Scalar.cmpi .eq c32_i32_657 c0_i32_658
  let c1_i32_659 : BitVec 32 := 1#32
  let v960 : BitVec 32 := Scalar.select v959 c1_i32_659 c32_i32_657
  let v961 : BitVec 32 := Scalar.remsi v958 v960
  let c0_i32_661 : BitVec 32 := 0#32
  let v963 : BitVec 1 := Scalar.cmpi .slt v961 c0_i32_661
  let c0_i32_662 : BitVec 32 := 0#32
  let v964 : BitVec 1 := Scalar.cmpi .slt v960 c0_i32_662
  let v965 : BitVec 1 := Scalar.xori v963 v964
  let c0_i32_660 : BitVec 32 := 0#32
  let v962 : BitVec 1 := Scalar.cmpi .ne v961 c0_i32_660
  let v966 : BitVec 1 := Scalar.andi v965 v962
  let v967 : BitVec 32 := Scalar.addi v961 v960
  let v968 : BitVec 32 := Scalar.select v966 v967 v961
  let c1_i32_699 : BitVec 32 := 1#32
  let v1020 : BitVec 32 := Scalar.muli v968 c1_i32_699
  let v1021 : BitVec 32 := Scalar.addi c0_i32_700 v1020
  v1021.toNat
def k0_dev39 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_705 : BitVec 32 := 8#32
  let v1030 : BitVec 32 := Scalar.addi v2 c8_i32_705
  let c32_i32_706 : BitVec 32 := 32#32
  let c0_i32_707 : BitVec 32 := 0#32
  let v1031 : BitVec 1 := Scalar.cmpi .eq c32_i32_706 c0_i32_707
  let c1_i32_708 : BitVec 32 := 1#32
  let v1032 : BitVec 32 := Scalar.select v1031 c1_i32_708 c32_i32_706
  let v1033 : BitVec 32 := Scalar.remsi v1030 v1032
  let c0_i32_710 : BitVec 32 := 0#32
  let v1035 : BitVec 1 := Scalar.cmpi .slt v1033 c0_i32_710
  let c0_i32_711 : BitVec 32 := 0#32
  let v1036 : BitVec 1 := Scalar.cmpi .slt v1032 c0_i32_711
  let v1037 : BitVec 1 := Scalar.xori v1035 v1036
  let c0_i32_709 : BitVec 32 := 0#32
  let v1034 : BitVec 1 := Scalar.cmpi .ne v1033 c0_i32_709
  let v1038 : BitVec 1 := Scalar.andi v1037 v1034
  let v1039 : BitVec 32 := Scalar.addi v1033 v1032
  let v1040 : BitVec 32 := Scalar.select v1038 v1039 v1033
  let c1_i32_748 : BitVec 32 := 1#32
  let v1092 : BitVec 32 := Scalar.muli v1040 c1_i32_748
  let v1093 : BitVec 32 := Scalar.addi c0_i32_749 v1092
  v1093.toNat
def k0_dev40 (d0 : Dev nD) : Nat :=
  let c0_i32_798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_754 : BitVec 32 := 9#32
  let v1102 : BitVec 32 := Scalar.addi v2 c9_i32_754
  let c32_i32_755 : BitVec 32 := 32#32
  let c0_i32_756 : BitVec 32 := 0#32
  let v1103 : BitVec 1 := Scalar.cmpi .eq c32_i32_755 c0_i32_756
  let c1_i32_757 : BitVec 32 := 1#32
  let v1104 : BitVec 32 := Scalar.select v1103 c1_i32_757 c32_i32_755
  let v1105 : BitVec 32 := Scalar.remsi v1102 v1104
  let c0_i32_759 : BitVec 32 := 0#32
  let v1107 : BitVec 1 := Scalar.cmpi .slt v1105 c0_i32_759
  let c0_i32_760 : BitVec 32 := 0#32
  let v1108 : BitVec 1 := Scalar.cmpi .slt v1104 c0_i32_760
  let v1109 : BitVec 1 := Scalar.xori v1107 v1108
  let c0_i32_758 : BitVec 32 := 0#32
  let v1106 : BitVec 1 := Scalar.cmpi .ne v1105 c0_i32_758
  let v1110 : BitVec 1 := Scalar.andi v1109 v1106
  let v1111 : BitVec 32 := Scalar.addi v1105 v1104
  let v1112 : BitVec 32 := Scalar.select v1110 v1111 v1105
  let c1_i32_797 : BitVec 32 := 1#32
  let v1164 : BitVec 32 := Scalar.muli v1112 c1_i32_797
  let v1165 : BitVec 32 := Scalar.addi c0_i32_798 v1164
  v1165.toNat
def k0_dev41 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_803 : BitVec 32 := 10#32
  let v1174 : BitVec 32 := Scalar.addi v2 c10_i32_803
  let c32_i32_804 : BitVec 32 := 32#32
  let c0_i32_805 : BitVec 32 := 0#32
  let v1175 : BitVec 1 := Scalar.cmpi .eq c32_i32_804 c0_i32_805
  let c1_i32_806 : BitVec 32 := 1#32
  let v1176 : BitVec 32 := Scalar.select v1175 c1_i32_806 c32_i32_804
  let v1177 : BitVec 32 := Scalar.remsi v1174 v1176
  let c0_i32_808 : BitVec 32 := 0#32
  let v1179 : BitVec 1 := Scalar.cmpi .slt v1177 c0_i32_808
  let c0_i32_809 : BitVec 32 := 0#32
  let v1180 : BitVec 1 := Scalar.cmpi .slt v1176 c0_i32_809
  let v1181 : BitVec 1 := Scalar.xori v1179 v1180
  let c0_i32_807 : BitVec 32 := 0#32
  let v1178 : BitVec 1 := Scalar.cmpi .ne v1177 c0_i32_807
  let v1182 : BitVec 1 := Scalar.andi v1181 v1178
  let v1183 : BitVec 32 := Scalar.addi v1177 v1176
  let v1184 : BitVec 32 := Scalar.select v1182 v1183 v1177
  let c1_i32_846 : BitVec 32 := 1#32
  let v1236 : BitVec 32 := Scalar.muli v1184 c1_i32_846
  let v1237 : BitVec 32 := Scalar.addi c0_i32_847 v1236
  v1237.toNat
def k0_dev42 (d0 : Dev nD) : Nat :=
  let c0_i32_896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_852 : BitVec 32 := 11#32
  let v1246 : BitVec 32 := Scalar.addi v2 c11_i32_852
  let c32_i32_853 : BitVec 32 := 32#32
  let c0_i32_854 : BitVec 32 := 0#32
  let v1247 : BitVec 1 := Scalar.cmpi .eq c32_i32_853 c0_i32_854
  let c1_i32_855 : BitVec 32 := 1#32
  let v1248 : BitVec 32 := Scalar.select v1247 c1_i32_855 c32_i32_853
  let v1249 : BitVec 32 := Scalar.remsi v1246 v1248
  let c0_i32_857 : BitVec 32 := 0#32
  let v1251 : BitVec 1 := Scalar.cmpi .slt v1249 c0_i32_857
  let c0_i32_858 : BitVec 32 := 0#32
  let v1252 : BitVec 1 := Scalar.cmpi .slt v1248 c0_i32_858
  let v1253 : BitVec 1 := Scalar.xori v1251 v1252
  let c0_i32_856 : BitVec 32 := 0#32
  let v1250 : BitVec 1 := Scalar.cmpi .ne v1249 c0_i32_856
  let v1254 : BitVec 1 := Scalar.andi v1253 v1250
  let v1255 : BitVec 32 := Scalar.addi v1249 v1248
  let v1256 : BitVec 32 := Scalar.select v1254 v1255 v1249
  let c1_i32_895 : BitVec 32 := 1#32
  let v1308 : BitVec 32 := Scalar.muli v1256 c1_i32_895
  let v1309 : BitVec 32 := Scalar.addi c0_i32_896 v1308
  v1309.toNat
def k0_dev43 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_901 : BitVec 32 := 12#32
  let v1318 : BitVec 32 := Scalar.addi v2 c12_i32_901
  let c32_i32_902 : BitVec 32 := 32#32
  let c0_i32_903 : BitVec 32 := 0#32
  let v1319 : BitVec 1 := Scalar.cmpi .eq c32_i32_902 c0_i32_903
  let c1_i32_904 : BitVec 32 := 1#32
  let v1320 : BitVec 32 := Scalar.select v1319 c1_i32_904 c32_i32_902
  let v1321 : BitVec 32 := Scalar.remsi v1318 v1320
  let c0_i32_906 : BitVec 32 := 0#32
  let v1323 : BitVec 1 := Scalar.cmpi .slt v1321 c0_i32_906
  let c0_i32_907 : BitVec 32 := 0#32
  let v1324 : BitVec 1 := Scalar.cmpi .slt v1320 c0_i32_907
  let v1325 : BitVec 1 := Scalar.xori v1323 v1324
  let c0_i32_905 : BitVec 32 := 0#32
  let v1322 : BitVec 1 := Scalar.cmpi .ne v1321 c0_i32_905
  let v1326 : BitVec 1 := Scalar.andi v1325 v1322
  let v1327 : BitVec 32 := Scalar.addi v1321 v1320
  let v1328 : BitVec 32 := Scalar.select v1326 v1327 v1321
  let c1_i32_944 : BitVec 32 := 1#32
  let v1380 : BitVec 32 := Scalar.muli v1328 c1_i32_944
  let v1381 : BitVec 32 := Scalar.addi c0_i32_945 v1380
  v1381.toNat
def k0_dev44 (d0 : Dev nD) : Nat :=
  let c0_i32_994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_950 : BitVec 32 := 13#32
  let v1390 : BitVec 32 := Scalar.addi v2 c13_i32_950
  let c32_i32_951 : BitVec 32 := 32#32
  let c0_i32_952 : BitVec 32 := 0#32
  let v1391 : BitVec 1 := Scalar.cmpi .eq c32_i32_951 c0_i32_952
  let c1_i32_953 : BitVec 32 := 1#32
  let v1392 : BitVec 32 := Scalar.select v1391 c1_i32_953 c32_i32_951
  let v1393 : BitVec 32 := Scalar.remsi v1390 v1392
  let c0_i32_955 : BitVec 32 := 0#32
  let v1395 : BitVec 1 := Scalar.cmpi .slt v1393 c0_i32_955
  let c0_i32_956 : BitVec 32 := 0#32
  let v1396 : BitVec 1 := Scalar.cmpi .slt v1392 c0_i32_956
  let v1397 : BitVec 1 := Scalar.xori v1395 v1396
  let c0_i32_954 : BitVec 32 := 0#32
  let v1394 : BitVec 1 := Scalar.cmpi .ne v1393 c0_i32_954
  let v1398 : BitVec 1 := Scalar.andi v1397 v1394
  let v1399 : BitVec 32 := Scalar.addi v1393 v1392
  let v1400 : BitVec 32 := Scalar.select v1398 v1399 v1393
  let c1_i32_993 : BitVec 32 := 1#32
  let v1452 : BitVec 32 := Scalar.muli v1400 c1_i32_993
  let v1453 : BitVec 32 := Scalar.addi c0_i32_994 v1452
  v1453.toNat
def k0_dev45 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_999 : BitVec 32 := 14#32
  let v1462 : BitVec 32 := Scalar.addi v2 c14_i32_999
  let c32_i32_1000 : BitVec 32 := 32#32
  let c0_i32_1001 : BitVec 32 := 0#32
  let v1463 : BitVec 1 := Scalar.cmpi .eq c32_i32_1000 c0_i32_1001
  let c1_i32_1002 : BitVec 32 := 1#32
  let v1464 : BitVec 32 := Scalar.select v1463 c1_i32_1002 c32_i32_1000
  let v1465 : BitVec 32 := Scalar.remsi v1462 v1464
  let c0_i32_1004 : BitVec 32 := 0#32
  let v1467 : BitVec 1 := Scalar.cmpi .slt v1465 c0_i32_1004
  let c0_i32_1005 : BitVec 32 := 0#32
  let v1468 : BitVec 1 := Scalar.cmpi .slt v1464 c0_i32_1005
  let v1469 : BitVec 1 := Scalar.xori v1467 v1468
  let c0_i32_1003 : BitVec 32 := 0#32
  let v1466 : BitVec 1 := Scalar.cmpi .ne v1465 c0_i32_1003
  let v1470 : BitVec 1 := Scalar.andi v1469 v1466
  let v1471 : BitVec 32 := Scalar.addi v1465 v1464
  let v1472 : BitVec 32 := Scalar.select v1470 v1471 v1465
  let c1_i32_1042 : BitVec 32 := 1#32
  let v1524 : BitVec 32 := Scalar.muli v1472 c1_i32_1042
  let v1525 : BitVec 32 := Scalar.addi c0_i32_1043 v1524
  v1525.toNat
def k0_dev46 (d0 : Dev nD) : Nat :=
  let c0_i32_1092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1048 : BitVec 32 := 15#32
  let v1534 : BitVec 32 := Scalar.addi v2 c15_i32_1048
  let c32_i32_1049 : BitVec 32 := 32#32
  let c0_i32_1050 : BitVec 32 := 0#32
  let v1535 : BitVec 1 := Scalar.cmpi .eq c32_i32_1049 c0_i32_1050
  let c1_i32_1051 : BitVec 32 := 1#32
  let v1536 : BitVec 32 := Scalar.select v1535 c1_i32_1051 c32_i32_1049
  let v1537 : BitVec 32 := Scalar.remsi v1534 v1536
  let c0_i32_1053 : BitVec 32 := 0#32
  let v1539 : BitVec 1 := Scalar.cmpi .slt v1537 c0_i32_1053
  let c0_i32_1054 : BitVec 32 := 0#32
  let v1540 : BitVec 1 := Scalar.cmpi .slt v1536 c0_i32_1054
  let v1541 : BitVec 1 := Scalar.xori v1539 v1540
  let c0_i32_1052 : BitVec 32 := 0#32
  let v1538 : BitVec 1 := Scalar.cmpi .ne v1537 c0_i32_1052
  let v1542 : BitVec 1 := Scalar.andi v1541 v1538
  let v1543 : BitVec 32 := Scalar.addi v1537 v1536
  let v1544 : BitVec 32 := Scalar.select v1542 v1543 v1537
  let c1_i32_1091 : BitVec 32 := 1#32
  let v1596 : BitVec 32 := Scalar.muli v1544 c1_i32_1091
  let v1597 : BitVec 32 := Scalar.addi c0_i32_1092 v1596
  v1597.toNat
def k0_dev47 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1097 : BitVec 32 := 16#32
  let v1606 : BitVec 32 := Scalar.addi v2 c16_i32_1097
  let c32_i32_1098 : BitVec 32 := 32#32
  let c0_i32_1099 : BitVec 32 := 0#32
  let v1607 : BitVec 1 := Scalar.cmpi .eq c32_i32_1098 c0_i32_1099
  let c1_i32_1100 : BitVec 32 := 1#32
  let v1608 : BitVec 32 := Scalar.select v1607 c1_i32_1100 c32_i32_1098
  let v1609 : BitVec 32 := Scalar.remsi v1606 v1608
  let c0_i32_1102 : BitVec 32 := 0#32
  let v1611 : BitVec 1 := Scalar.cmpi .slt v1609 c0_i32_1102
  let c0_i32_1103 : BitVec 32 := 0#32
  let v1612 : BitVec 1 := Scalar.cmpi .slt v1608 c0_i32_1103
  let v1613 : BitVec 1 := Scalar.xori v1611 v1612
  let c0_i32_1101 : BitVec 32 := 0#32
  let v1610 : BitVec 1 := Scalar.cmpi .ne v1609 c0_i32_1101
  let v1614 : BitVec 1 := Scalar.andi v1613 v1610
  let v1615 : BitVec 32 := Scalar.addi v1609 v1608
  let v1616 : BitVec 32 := Scalar.select v1614 v1615 v1609
  let c1_i32_1140 : BitVec 32 := 1#32
  let v1668 : BitVec 32 := Scalar.muli v1616 c1_i32_1140
  let v1669 : BitVec 32 := Scalar.addi c0_i32_1141 v1668
  v1669.toNat
def k0_dev48 (d0 : Dev nD) : Nat :=
  let c0_i32_1190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1146 : BitVec 32 := 17#32
  let v1678 : BitVec 32 := Scalar.addi v2 c17_i32_1146
  let c32_i32_1147 : BitVec 32 := 32#32
  let c0_i32_1148 : BitVec 32 := 0#32
  let v1679 : BitVec 1 := Scalar.cmpi .eq c32_i32_1147 c0_i32_1148
  let c1_i32_1149 : BitVec 32 := 1#32
  let v1680 : BitVec 32 := Scalar.select v1679 c1_i32_1149 c32_i32_1147
  let v1681 : BitVec 32 := Scalar.remsi v1678 v1680
  let c0_i32_1151 : BitVec 32 := 0#32
  let v1683 : BitVec 1 := Scalar.cmpi .slt v1681 c0_i32_1151
  let c0_i32_1152 : BitVec 32 := 0#32
  let v1684 : BitVec 1 := Scalar.cmpi .slt v1680 c0_i32_1152
  let v1685 : BitVec 1 := Scalar.xori v1683 v1684
  let c0_i32_1150 : BitVec 32 := 0#32
  let v1682 : BitVec 1 := Scalar.cmpi .ne v1681 c0_i32_1150
  let v1686 : BitVec 1 := Scalar.andi v1685 v1682
  let v1687 : BitVec 32 := Scalar.addi v1681 v1680
  let v1688 : BitVec 32 := Scalar.select v1686 v1687 v1681
  let c1_i32_1189 : BitVec 32 := 1#32
  let v1740 : BitVec 32 := Scalar.muli v1688 c1_i32_1189
  let v1741 : BitVec 32 := Scalar.addi c0_i32_1190 v1740
  v1741.toNat
def k0_dev49 (d0 : Dev nD) : Nat :=
  let c0_i32_1239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1195 : BitVec 32 := 18#32
  let v1750 : BitVec 32 := Scalar.addi v2 c18_i32_1195
  let c32_i32_1196 : BitVec 32 := 32#32
  let c0_i32_1197 : BitVec 32 := 0#32
  let v1751 : BitVec 1 := Scalar.cmpi .eq c32_i32_1196 c0_i32_1197
  let c1_i32_1198 : BitVec 32 := 1#32
  let v1752 : BitVec 32 := Scalar.select v1751 c1_i32_1198 c32_i32_1196
  let v1753 : BitVec 32 := Scalar.remsi v1750 v1752
  let c0_i32_1200 : BitVec 32 := 0#32
  let v1755 : BitVec 1 := Scalar.cmpi .slt v1753 c0_i32_1200
  let c0_i32_1201 : BitVec 32 := 0#32
  let v1756 : BitVec 1 := Scalar.cmpi .slt v1752 c0_i32_1201
  let v1757 : BitVec 1 := Scalar.xori v1755 v1756
  let c0_i32_1199 : BitVec 32 := 0#32
  let v1754 : BitVec 1 := Scalar.cmpi .ne v1753 c0_i32_1199
  let v1758 : BitVec 1 := Scalar.andi v1757 v1754
  let v1759 : BitVec 32 := Scalar.addi v1753 v1752
  let v1760 : BitVec 32 := Scalar.select v1758 v1759 v1753
  let c1_i32_1238 : BitVec 32 := 1#32
  let v1812 : BitVec 32 := Scalar.muli v1760 c1_i32_1238
  let v1813 : BitVec 32 := Scalar.addi c0_i32_1239 v1812
  v1813.toNat
def k0_dev50 (d0 : Dev nD) : Nat :=
  let c0_i32_1288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1244 : BitVec 32 := 19#32
  let v1822 : BitVec 32 := Scalar.addi v2 c19_i32_1244
  let c32_i32_1245 : BitVec 32 := 32#32
  let c0_i32_1246 : BitVec 32 := 0#32
  let v1823 : BitVec 1 := Scalar.cmpi .eq c32_i32_1245 c0_i32_1246
  let c1_i32_1247 : BitVec 32 := 1#32
  let v1824 : BitVec 32 := Scalar.select v1823 c1_i32_1247 c32_i32_1245
  let v1825 : BitVec 32 := Scalar.remsi v1822 v1824
  let c0_i32_1249 : BitVec 32 := 0#32
  let v1827 : BitVec 1 := Scalar.cmpi .slt v1825 c0_i32_1249
  let c0_i32_1250 : BitVec 32 := 0#32
  let v1828 : BitVec 1 := Scalar.cmpi .slt v1824 c0_i32_1250
  let v1829 : BitVec 1 := Scalar.xori v1827 v1828
  let c0_i32_1248 : BitVec 32 := 0#32
  let v1826 : BitVec 1 := Scalar.cmpi .ne v1825 c0_i32_1248
  let v1830 : BitVec 1 := Scalar.andi v1829 v1826
  let v1831 : BitVec 32 := Scalar.addi v1825 v1824
  let v1832 : BitVec 32 := Scalar.select v1830 v1831 v1825
  let c1_i32_1287 : BitVec 32 := 1#32
  let v1884 : BitVec 32 := Scalar.muli v1832 c1_i32_1287
  let v1885 : BitVec 32 := Scalar.addi c0_i32_1288 v1884
  v1885.toNat
def k0_dev51 (d0 : Dev nD) : Nat :=
  let c0_i32_1337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1293 : BitVec 32 := 20#32
  let v1894 : BitVec 32 := Scalar.addi v2 c20_i32_1293
  let c32_i32_1294 : BitVec 32 := 32#32
  let c0_i32_1295 : BitVec 32 := 0#32
  let v1895 : BitVec 1 := Scalar.cmpi .eq c32_i32_1294 c0_i32_1295
  let c1_i32_1296 : BitVec 32 := 1#32
  let v1896 : BitVec 32 := Scalar.select v1895 c1_i32_1296 c32_i32_1294
  let v1897 : BitVec 32 := Scalar.remsi v1894 v1896
  let c0_i32_1298 : BitVec 32 := 0#32
  let v1899 : BitVec 1 := Scalar.cmpi .slt v1897 c0_i32_1298
  let c0_i32_1299 : BitVec 32 := 0#32
  let v1900 : BitVec 1 := Scalar.cmpi .slt v1896 c0_i32_1299
  let v1901 : BitVec 1 := Scalar.xori v1899 v1900
  let c0_i32_1297 : BitVec 32 := 0#32
  let v1898 : BitVec 1 := Scalar.cmpi .ne v1897 c0_i32_1297
  let v1902 : BitVec 1 := Scalar.andi v1901 v1898
  let v1903 : BitVec 32 := Scalar.addi v1897 v1896
  let v1904 : BitVec 32 := Scalar.select v1902 v1903 v1897
  let c1_i32_1336 : BitVec 32 := 1#32
  let v1956 : BitVec 32 := Scalar.muli v1904 c1_i32_1336
  let v1957 : BitVec 32 := Scalar.addi c0_i32_1337 v1956
  v1957.toNat
def k0_dev52 (d0 : Dev nD) : Nat :=
  let c0_i32_1386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1342 : BitVec 32 := 21#32
  let v1966 : BitVec 32 := Scalar.addi v2 c21_i32_1342
  let c32_i32_1343 : BitVec 32 := 32#32
  let c0_i32_1344 : BitVec 32 := 0#32
  let v1967 : BitVec 1 := Scalar.cmpi .eq c32_i32_1343 c0_i32_1344
  let c1_i32_1345 : BitVec 32 := 1#32
  let v1968 : BitVec 32 := Scalar.select v1967 c1_i32_1345 c32_i32_1343
  let v1969 : BitVec 32 := Scalar.remsi v1966 v1968
  let c0_i32_1347 : BitVec 32 := 0#32
  let v1971 : BitVec 1 := Scalar.cmpi .slt v1969 c0_i32_1347
  let c0_i32_1348 : BitVec 32 := 0#32
  let v1972 : BitVec 1 := Scalar.cmpi .slt v1968 c0_i32_1348
  let v1973 : BitVec 1 := Scalar.xori v1971 v1972
  let c0_i32_1346 : BitVec 32 := 0#32
  let v1970 : BitVec 1 := Scalar.cmpi .ne v1969 c0_i32_1346
  let v1974 : BitVec 1 := Scalar.andi v1973 v1970
  let v1975 : BitVec 32 := Scalar.addi v1969 v1968
  let v1976 : BitVec 32 := Scalar.select v1974 v1975 v1969
  let c1_i32_1385 : BitVec 32 := 1#32
  let v2028 : BitVec 32 := Scalar.muli v1976 c1_i32_1385
  let v2029 : BitVec 32 := Scalar.addi c0_i32_1386 v2028
  v2029.toNat
def k0_dev53 (d0 : Dev nD) : Nat :=
  let c0_i32_1435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1391 : BitVec 32 := 22#32
  let v2038 : BitVec 32 := Scalar.addi v2 c22_i32_1391
  let c32_i32_1392 : BitVec 32 := 32#32
  let c0_i32_1393 : BitVec 32 := 0#32
  let v2039 : BitVec 1 := Scalar.cmpi .eq c32_i32_1392 c0_i32_1393
  let c1_i32_1394 : BitVec 32 := 1#32
  let v2040 : BitVec 32 := Scalar.select v2039 c1_i32_1394 c32_i32_1392
  let v2041 : BitVec 32 := Scalar.remsi v2038 v2040
  let c0_i32_1396 : BitVec 32 := 0#32
  let v2043 : BitVec 1 := Scalar.cmpi .slt v2041 c0_i32_1396
  let c0_i32_1397 : BitVec 32 := 0#32
  let v2044 : BitVec 1 := Scalar.cmpi .slt v2040 c0_i32_1397
  let v2045 : BitVec 1 := Scalar.xori v2043 v2044
  let c0_i32_1395 : BitVec 32 := 0#32
  let v2042 : BitVec 1 := Scalar.cmpi .ne v2041 c0_i32_1395
  let v2046 : BitVec 1 := Scalar.andi v2045 v2042
  let v2047 : BitVec 32 := Scalar.addi v2041 v2040
  let v2048 : BitVec 32 := Scalar.select v2046 v2047 v2041
  let c1_i32_1434 : BitVec 32 := 1#32
  let v2100 : BitVec 32 := Scalar.muli v2048 c1_i32_1434
  let v2101 : BitVec 32 := Scalar.addi c0_i32_1435 v2100
  v2101.toNat
def k0_dev54 (d0 : Dev nD) : Nat :=
  let c0_i32_1484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1440 : BitVec 32 := 23#32
  let v2110 : BitVec 32 := Scalar.addi v2 c23_i32_1440
  let c32_i32_1441 : BitVec 32 := 32#32
  let c0_i32_1442 : BitVec 32 := 0#32
  let v2111 : BitVec 1 := Scalar.cmpi .eq c32_i32_1441 c0_i32_1442
  let c1_i32_1443 : BitVec 32 := 1#32
  let v2112 : BitVec 32 := Scalar.select v2111 c1_i32_1443 c32_i32_1441
  let v2113 : BitVec 32 := Scalar.remsi v2110 v2112
  let c0_i32_1445 : BitVec 32 := 0#32
  let v2115 : BitVec 1 := Scalar.cmpi .slt v2113 c0_i32_1445
  let c0_i32_1446 : BitVec 32 := 0#32
  let v2116 : BitVec 1 := Scalar.cmpi .slt v2112 c0_i32_1446
  let v2117 : BitVec 1 := Scalar.xori v2115 v2116
  let c0_i32_1444 : BitVec 32 := 0#32
  let v2114 : BitVec 1 := Scalar.cmpi .ne v2113 c0_i32_1444
  let v2118 : BitVec 1 := Scalar.andi v2117 v2114
  let v2119 : BitVec 32 := Scalar.addi v2113 v2112
  let v2120 : BitVec 32 := Scalar.select v2118 v2119 v2113
  let c1_i32_1483 : BitVec 32 := 1#32
  let v2172 : BitVec 32 := Scalar.muli v2120 c1_i32_1483
  let v2173 : BitVec 32 := Scalar.addi c0_i32_1484 v2172
  v2173.toNat
def k0_dev55 (d0 : Dev nD) : Nat :=
  let c0_i32_1533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1489 : BitVec 32 := 24#32
  let v2182 : BitVec 32 := Scalar.addi v2 c24_i32_1489
  let c32_i32_1490 : BitVec 32 := 32#32
  let c0_i32_1491 : BitVec 32 := 0#32
  let v2183 : BitVec 1 := Scalar.cmpi .eq c32_i32_1490 c0_i32_1491
  let c1_i32_1492 : BitVec 32 := 1#32
  let v2184 : BitVec 32 := Scalar.select v2183 c1_i32_1492 c32_i32_1490
  let v2185 : BitVec 32 := Scalar.remsi v2182 v2184
  let c0_i32_1494 : BitVec 32 := 0#32
  let v2187 : BitVec 1 := Scalar.cmpi .slt v2185 c0_i32_1494
  let c0_i32_1495 : BitVec 32 := 0#32
  let v2188 : BitVec 1 := Scalar.cmpi .slt v2184 c0_i32_1495
  let v2189 : BitVec 1 := Scalar.xori v2187 v2188
  let c0_i32_1493 : BitVec 32 := 0#32
  let v2186 : BitVec 1 := Scalar.cmpi .ne v2185 c0_i32_1493
  let v2190 : BitVec 1 := Scalar.andi v2189 v2186
  let v2191 : BitVec 32 := Scalar.addi v2185 v2184
  let v2192 : BitVec 32 := Scalar.select v2190 v2191 v2185
  let c1_i32_1532 : BitVec 32 := 1#32
  let v2244 : BitVec 32 := Scalar.muli v2192 c1_i32_1532
  let v2245 : BitVec 32 := Scalar.addi c0_i32_1533 v2244
  v2245.toNat
def k0_dev56 (d0 : Dev nD) : Nat :=
  let c0_i32_1582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1538 : BitVec 32 := 25#32
  let v2254 : BitVec 32 := Scalar.addi v2 c25_i32_1538
  let c32_i32_1539 : BitVec 32 := 32#32
  let c0_i32_1540 : BitVec 32 := 0#32
  let v2255 : BitVec 1 := Scalar.cmpi .eq c32_i32_1539 c0_i32_1540
  let c1_i32_1541 : BitVec 32 := 1#32
  let v2256 : BitVec 32 := Scalar.select v2255 c1_i32_1541 c32_i32_1539
  let v2257 : BitVec 32 := Scalar.remsi v2254 v2256
  let c0_i32_1543 : BitVec 32 := 0#32
  let v2259 : BitVec 1 := Scalar.cmpi .slt v2257 c0_i32_1543
  let c0_i32_1544 : BitVec 32 := 0#32
  let v2260 : BitVec 1 := Scalar.cmpi .slt v2256 c0_i32_1544
  let v2261 : BitVec 1 := Scalar.xori v2259 v2260
  let c0_i32_1542 : BitVec 32 := 0#32
  let v2258 : BitVec 1 := Scalar.cmpi .ne v2257 c0_i32_1542
  let v2262 : BitVec 1 := Scalar.andi v2261 v2258
  let v2263 : BitVec 32 := Scalar.addi v2257 v2256
  let v2264 : BitVec 32 := Scalar.select v2262 v2263 v2257
  let c1_i32_1581 : BitVec 32 := 1#32
  let v2316 : BitVec 32 := Scalar.muli v2264 c1_i32_1581
  let v2317 : BitVec 32 := Scalar.addi c0_i32_1582 v2316
  v2317.toNat
def k0_dev57 (d0 : Dev nD) : Nat :=
  let c0_i32_1631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1587 : BitVec 32 := 26#32
  let v2326 : BitVec 32 := Scalar.addi v2 c26_i32_1587
  let c32_i32_1588 : BitVec 32 := 32#32
  let c0_i32_1589 : BitVec 32 := 0#32
  let v2327 : BitVec 1 := Scalar.cmpi .eq c32_i32_1588 c0_i32_1589
  let c1_i32_1590 : BitVec 32 := 1#32
  let v2328 : BitVec 32 := Scalar.select v2327 c1_i32_1590 c32_i32_1588
  let v2329 : BitVec 32 := Scalar.remsi v2326 v2328
  let c0_i32_1592 : BitVec 32 := 0#32
  let v2331 : BitVec 1 := Scalar.cmpi .slt v2329 c0_i32_1592
  let c0_i32_1593 : BitVec 32 := 0#32
  let v2332 : BitVec 1 := Scalar.cmpi .slt v2328 c0_i32_1593
  let v2333 : BitVec 1 := Scalar.xori v2331 v2332
  let c0_i32_1591 : BitVec 32 := 0#32
  let v2330 : BitVec 1 := Scalar.cmpi .ne v2329 c0_i32_1591
  let v2334 : BitVec 1 := Scalar.andi v2333 v2330
  let v2335 : BitVec 32 := Scalar.addi v2329 v2328
  let v2336 : BitVec 32 := Scalar.select v2334 v2335 v2329
  let c1_i32_1630 : BitVec 32 := 1#32
  let v2388 : BitVec 32 := Scalar.muli v2336 c1_i32_1630
  let v2389 : BitVec 32 := Scalar.addi c0_i32_1631 v2388
  v2389.toNat
def k0_dev58 (d0 : Dev nD) : Nat :=
  let c0_i32_1680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1636 : BitVec 32 := 27#32
  let v2398 : BitVec 32 := Scalar.addi v2 c27_i32_1636
  let c32_i32_1637 : BitVec 32 := 32#32
  let c0_i32_1638 : BitVec 32 := 0#32
  let v2399 : BitVec 1 := Scalar.cmpi .eq c32_i32_1637 c0_i32_1638
  let c1_i32_1639 : BitVec 32 := 1#32
  let v2400 : BitVec 32 := Scalar.select v2399 c1_i32_1639 c32_i32_1637
  let v2401 : BitVec 32 := Scalar.remsi v2398 v2400
  let c0_i32_1641 : BitVec 32 := 0#32
  let v2403 : BitVec 1 := Scalar.cmpi .slt v2401 c0_i32_1641
  let c0_i32_1642 : BitVec 32 := 0#32
  let v2404 : BitVec 1 := Scalar.cmpi .slt v2400 c0_i32_1642
  let v2405 : BitVec 1 := Scalar.xori v2403 v2404
  let c0_i32_1640 : BitVec 32 := 0#32
  let v2402 : BitVec 1 := Scalar.cmpi .ne v2401 c0_i32_1640
  let v2406 : BitVec 1 := Scalar.andi v2405 v2402
  let v2407 : BitVec 32 := Scalar.addi v2401 v2400
  let v2408 : BitVec 32 := Scalar.select v2406 v2407 v2401
  let c1_i32_1679 : BitVec 32 := 1#32
  let v2460 : BitVec 32 := Scalar.muli v2408 c1_i32_1679
  let v2461 : BitVec 32 := Scalar.addi c0_i32_1680 v2460
  v2461.toNat
def k0_dev59 (d0 : Dev nD) : Nat :=
  let c0_i32_1716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1685 : BitVec 32 := 28#32
  let v2470 : BitVec 32 := Scalar.addi v2 c28_i32_1685
  let c32_i32_1686 : BitVec 32 := 32#32
  let c0_i32_1687 : BitVec 32 := 0#32
  let v2471 : BitVec 1 := Scalar.cmpi .eq c32_i32_1686 c0_i32_1687
  let c1_i32_1688 : BitVec 32 := 1#32
  let v2472 : BitVec 32 := Scalar.select v2471 c1_i32_1688 c32_i32_1686
  let v2473 : BitVec 32 := Scalar.remsi v2470 v2472
  let c0_i32_1690 : BitVec 32 := 0#32
  let v2475 : BitVec 1 := Scalar.cmpi .slt v2473 c0_i32_1690
  let c0_i32_1691 : BitVec 32 := 0#32
  let v2476 : BitVec 1 := Scalar.cmpi .slt v2472 c0_i32_1691
  let v2477 : BitVec 1 := Scalar.xori v2475 v2476
  let c0_i32_1689 : BitVec 32 := 0#32
  let v2474 : BitVec 1 := Scalar.cmpi .ne v2473 c0_i32_1689
  let v2478 : BitVec 1 := Scalar.andi v2477 v2474
  let v2479 : BitVec 32 := Scalar.addi v2473 v2472
  let v2480 : BitVec 32 := Scalar.select v2478 v2479 v2473
  let c1_i32_1715 : BitVec 32 := 1#32
  let v2515 : BitVec 32 := Scalar.muli v2480 c1_i32_1715
  let v2516 : BitVec 32 := Scalar.addi c0_i32_1716 v2515
  v2516.toNat
def k0_dev60 (d0 : Dev nD) : Nat :=
  let c0_i32_1752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1721 : BitVec 32 := 29#32
  let v2525 : BitVec 32 := Scalar.addi v2 c29_i32_1721
  let c32_i32_1722 : BitVec 32 := 32#32
  let c0_i32_1723 : BitVec 32 := 0#32
  let v2526 : BitVec 1 := Scalar.cmpi .eq c32_i32_1722 c0_i32_1723
  let c1_i32_1724 : BitVec 32 := 1#32
  let v2527 : BitVec 32 := Scalar.select v2526 c1_i32_1724 c32_i32_1722
  let v2528 : BitVec 32 := Scalar.remsi v2525 v2527
  let c0_i32_1726 : BitVec 32 := 0#32
  let v2530 : BitVec 1 := Scalar.cmpi .slt v2528 c0_i32_1726
  let c0_i32_1727 : BitVec 32 := 0#32
  let v2531 : BitVec 1 := Scalar.cmpi .slt v2527 c0_i32_1727
  let v2532 : BitVec 1 := Scalar.xori v2530 v2531
  let c0_i32_1725 : BitVec 32 := 0#32
  let v2529 : BitVec 1 := Scalar.cmpi .ne v2528 c0_i32_1725
  let v2533 : BitVec 1 := Scalar.andi v2532 v2529
  let v2534 : BitVec 32 := Scalar.addi v2528 v2527
  let v2535 : BitVec 32 := Scalar.select v2533 v2534 v2528
  let c1_i32_1751 : BitVec 32 := 1#32
  let v2570 : BitVec 32 := Scalar.muli v2535 c1_i32_1751
  let v2571 : BitVec 32 := Scalar.addi c0_i32_1752 v2570
  v2571.toNat
def k0_dev61 (d0 : Dev nD) : Nat :=
  let c0_i32_1788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1757 : BitVec 32 := 30#32
  let v2580 : BitVec 32 := Scalar.addi v2 c30_i32_1757
  let c32_i32_1758 : BitVec 32 := 32#32
  let c0_i32_1759 : BitVec 32 := 0#32
  let v2581 : BitVec 1 := Scalar.cmpi .eq c32_i32_1758 c0_i32_1759
  let c1_i32_1760 : BitVec 32 := 1#32
  let v2582 : BitVec 32 := Scalar.select v2581 c1_i32_1760 c32_i32_1758
  let v2583 : BitVec 32 := Scalar.remsi v2580 v2582
  let c0_i32_1762 : BitVec 32 := 0#32
  let v2585 : BitVec 1 := Scalar.cmpi .slt v2583 c0_i32_1762
  let c0_i32_1763 : BitVec 32 := 0#32
  let v2586 : BitVec 1 := Scalar.cmpi .slt v2582 c0_i32_1763
  let v2587 : BitVec 1 := Scalar.xori v2585 v2586
  let c0_i32_1761 : BitVec 32 := 0#32
  let v2584 : BitVec 1 := Scalar.cmpi .ne v2583 c0_i32_1761
  let v2588 : BitVec 1 := Scalar.andi v2587 v2584
  let v2589 : BitVec 32 := Scalar.addi v2583 v2582
  let v2590 : BitVec 32 := Scalar.select v2588 v2589 v2583
  let c1_i32_1787 : BitVec 32 := 1#32
  let v2625 : BitVec 32 := Scalar.muli v2590 c1_i32_1787
  let v2626 : BitVec 32 := Scalar.addi c0_i32_1788 v2625
  v2626.toNat
def k0_dev62 (d0 : Dev nD) : Nat :=
  let c0_i32_1824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1793 : BitVec 32 := 31#32
  let v2635 : BitVec 32 := Scalar.addi v2 c31_i32_1793
  let c32_i32_1794 : BitVec 32 := 32#32
  let c0_i32_1795 : BitVec 32 := 0#32
  let v2636 : BitVec 1 := Scalar.cmpi .eq c32_i32_1794 c0_i32_1795
  let c1_i32_1796 : BitVec 32 := 1#32
  let v2637 : BitVec 32 := Scalar.select v2636 c1_i32_1796 c32_i32_1794
  let v2638 : BitVec 32 := Scalar.remsi v2635 v2637
  let c0_i32_1798 : BitVec 32 := 0#32
  let v2640 : BitVec 1 := Scalar.cmpi .slt v2638 c0_i32_1798
  let c0_i32_1799 : BitVec 32 := 0#32
  let v2641 : BitVec 1 := Scalar.cmpi .slt v2637 c0_i32_1799
  let v2642 : BitVec 1 := Scalar.xori v2640 v2641
  let c0_i32_1797 : BitVec 32 := 0#32
  let v2639 : BitVec 1 := Scalar.cmpi .ne v2638 c0_i32_1797
  let v2643 : BitVec 1 := Scalar.andi v2642 v2639
  let v2644 : BitVec 32 := Scalar.addi v2638 v2637
  let v2645 : BitVec 32 := Scalar.select v2643 v2644 v2638
  let c1_i32_1823 : BitVec 32 := 1#32
  let v2680 : BitVec 32 := Scalar.muli v2645 c1_i32_1823
  let v2681 : BitVec 32 := Scalar.addi c0_i32_1824 v2680
  v2681.toNat
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2691 : Index := Scalar.indexCast v2
  let c0_1829 : Index := 0#32
  let c0_1830 : Index := 0#32
  ![v2691.toNat, 0, 0]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1841 : BitVec 32 := 0#32
  let c0_i32_1842 : BitVec 32 := 0#32
  ![v2.toNat, 0, 0]
def k0_dev63 (d0 : Dev nD) : Nat :=
  let c0_i32_1840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1831 : BitVec 32 := 1#32
  let v2695 : BitVec 32 := Scalar.addi v2 c1_i32_1831
  let c32_i32_1832 : BitVec 32 := 32#32
  let c0_i32_1833 : BitVec 32 := 0#32
  let v2696 : BitVec 1 := Scalar.cmpi .eq c32_i32_1832 c0_i32_1833
  let c1_i32_1834 : BitVec 32 := 1#32
  let v2697 : BitVec 32 := Scalar.select v2696 c1_i32_1834 c32_i32_1832
  let v2698 : BitVec 32 := Scalar.remsi v2695 v2697
  let c0_i32_1836 : BitVec 32 := 0#32
  let v2700 : BitVec 1 := Scalar.cmpi .slt v2698 c0_i32_1836
  let c0_i32_1837 : BitVec 32 := 0#32
  let v2701 : BitVec 1 := Scalar.cmpi .slt v2697 c0_i32_1837
  let v2702 : BitVec 1 := Scalar.xori v2700 v2701
  let c0_i32_1835 : BitVec 32 := 0#32
  let v2699 : BitVec 1 := Scalar.cmpi .ne v2698 c0_i32_1835
  let v2703 : BitVec 1 := Scalar.andi v2702 v2699
  let v2704 : BitVec 32 := Scalar.addi v2698 v2697
  let v2705 : BitVec 32 := Scalar.select v2703 v2704 v2698
  let c1_i32_1839 : BitVec 32 := 1#32
  let v2706 : BitVec 32 := Scalar.muli v2705 c1_i32_1839
  let v2707 : BitVec 32 := Scalar.addi c0_i32_1840 v2706
  v2707.toNat
def k0_dev64 (d0 : Dev nD) : Nat :=
  let c0_i32_1854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1845 : BitVec 32 := 2#32
  let v2716 : BitVec 32 := Scalar.addi v2 c2_i32_1845
  let c32_i32_1846 : BitVec 32 := 32#32
  let c0_i32_1847 : BitVec 32 := 0#32
  let v2717 : BitVec 1 := Scalar.cmpi .eq c32_i32_1846 c0_i32_1847
  let c1_i32_1848 : BitVec 32 := 1#32
  let v2718 : BitVec 32 := Scalar.select v2717 c1_i32_1848 c32_i32_1846
  let v2719 : BitVec 32 := Scalar.remsi v2716 v2718
  let c0_i32_1850 : BitVec 32 := 0#32
  let v2721 : BitVec 1 := Scalar.cmpi .slt v2719 c0_i32_1850
  let c0_i32_1851 : BitVec 32 := 0#32
  let v2722 : BitVec 1 := Scalar.cmpi .slt v2718 c0_i32_1851
  let v2723 : BitVec 1 := Scalar.xori v2721 v2722
  let c0_i32_1849 : BitVec 32 := 0#32
  let v2720 : BitVec 1 := Scalar.cmpi .ne v2719 c0_i32_1849
  let v2724 : BitVec 1 := Scalar.andi v2723 v2720
  let v2725 : BitVec 32 := Scalar.addi v2719 v2718
  let v2726 : BitVec 32 := Scalar.select v2724 v2725 v2719
  let c1_i32_1853 : BitVec 32 := 1#32
  let v2727 : BitVec 32 := Scalar.muli v2726 c1_i32_1853
  let v2728 : BitVec 32 := Scalar.addi c0_i32_1854 v2727
  v2728.toNat
def k0_dev65 (d0 : Dev nD) : Nat :=
  let c0_i32_1868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1859 : BitVec 32 := 3#32
  let v2737 : BitVec 32 := Scalar.addi v2 c3_i32_1859
  let c32_i32_1860 : BitVec 32 := 32#32
  let c0_i32_1861 : BitVec 32 := 0#32
  let v2738 : BitVec 1 := Scalar.cmpi .eq c32_i32_1860 c0_i32_1861
  let c1_i32_1862 : BitVec 32 := 1#32
  let v2739 : BitVec 32 := Scalar.select v2738 c1_i32_1862 c32_i32_1860
  let v2740 : BitVec 32 := Scalar.remsi v2737 v2739
  let c0_i32_1864 : BitVec 32 := 0#32
  let v2742 : BitVec 1 := Scalar.cmpi .slt v2740 c0_i32_1864
  let c0_i32_1865 : BitVec 32 := 0#32
  let v2743 : BitVec 1 := Scalar.cmpi .slt v2739 c0_i32_1865
  let v2744 : BitVec 1 := Scalar.xori v2742 v2743
  let c0_i32_1863 : BitVec 32 := 0#32
  let v2741 : BitVec 1 := Scalar.cmpi .ne v2740 c0_i32_1863
  let v2745 : BitVec 1 := Scalar.andi v2744 v2741
  let v2746 : BitVec 32 := Scalar.addi v2740 v2739
  let v2747 : BitVec 32 := Scalar.select v2745 v2746 v2740
  let c1_i32_1867 : BitVec 32 := 1#32
  let v2748 : BitVec 32 := Scalar.muli v2747 c1_i32_1867
  let v2749 : BitVec 32 := Scalar.addi c0_i32_1868 v2748
  v2749.toNat
def k0_dev66 (d0 : Dev nD) : Nat :=
  let c0_i32_1882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1873 : BitVec 32 := 4#32
  let v2758 : BitVec 32 := Scalar.addi v2 c4_i32_1873
  let c32_i32_1874 : BitVec 32 := 32#32
  let c0_i32_1875 : BitVec 32 := 0#32
  let v2759 : BitVec 1 := Scalar.cmpi .eq c32_i32_1874 c0_i32_1875
  let c1_i32_1876 : BitVec 32 := 1#32
  let v2760 : BitVec 32 := Scalar.select v2759 c1_i32_1876 c32_i32_1874
  let v2761 : BitVec 32 := Scalar.remsi v2758 v2760
  let c0_i32_1878 : BitVec 32 := 0#32
  let v2763 : BitVec 1 := Scalar.cmpi .slt v2761 c0_i32_1878
  let c0_i32_1879 : BitVec 32 := 0#32
  let v2764 : BitVec 1 := Scalar.cmpi .slt v2760 c0_i32_1879
  let v2765 : BitVec 1 := Scalar.xori v2763 v2764
  let c0_i32_1877 : BitVec 32 := 0#32
  let v2762 : BitVec 1 := Scalar.cmpi .ne v2761 c0_i32_1877
  let v2766 : BitVec 1 := Scalar.andi v2765 v2762
  let v2767 : BitVec 32 := Scalar.addi v2761 v2760
  let v2768 : BitVec 32 := Scalar.select v2766 v2767 v2761
  let c1_i32_1881 : BitVec 32 := 1#32
  let v2769 : BitVec 32 := Scalar.muli v2768 c1_i32_1881
  let v2770 : BitVec 32 := Scalar.addi c0_i32_1882 v2769
  v2770.toNat
def k0_dev67 (d0 : Dev nD) : Nat :=
  let c0_i32_1896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1887 : BitVec 32 := 5#32
  let v2779 : BitVec 32 := Scalar.addi v2 c5_i32_1887
  let c32_i32_1888 : BitVec 32 := 32#32
  let c0_i32_1889 : BitVec 32 := 0#32
  let v2780 : BitVec 1 := Scalar.cmpi .eq c32_i32_1888 c0_i32_1889
  let c1_i32_1890 : BitVec 32 := 1#32
  let v2781 : BitVec 32 := Scalar.select v2780 c1_i32_1890 c32_i32_1888
  let v2782 : BitVec 32 := Scalar.remsi v2779 v2781
  let c0_i32_1892 : BitVec 32 := 0#32
  let v2784 : BitVec 1 := Scalar.cmpi .slt v2782 c0_i32_1892
  let c0_i32_1893 : BitVec 32 := 0#32
  let v2785 : BitVec 1 := Scalar.cmpi .slt v2781 c0_i32_1893
  let v2786 : BitVec 1 := Scalar.xori v2784 v2785
  let c0_i32_1891 : BitVec 32 := 0#32
  let v2783 : BitVec 1 := Scalar.cmpi .ne v2782 c0_i32_1891
  let v2787 : BitVec 1 := Scalar.andi v2786 v2783
  let v2788 : BitVec 32 := Scalar.addi v2782 v2781
  let v2789 : BitVec 32 := Scalar.select v2787 v2788 v2782
  let c1_i32_1895 : BitVec 32 := 1#32
  let v2790 : BitVec 32 := Scalar.muli v2789 c1_i32_1895
  let v2791 : BitVec 32 := Scalar.addi c0_i32_1896 v2790
  v2791.toNat
def k0_dev68 (d0 : Dev nD) : Nat :=
  let c0_i32_1910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1901 : BitVec 32 := 6#32
  let v2800 : BitVec 32 := Scalar.addi v2 c6_i32_1901
  let c32_i32_1902 : BitVec 32 := 32#32
  let c0_i32_1903 : BitVec 32 := 0#32
  let v2801 : BitVec 1 := Scalar.cmpi .eq c32_i32_1902 c0_i32_1903
  let c1_i32_1904 : BitVec 32 := 1#32
  let v2802 : BitVec 32 := Scalar.select v2801 c1_i32_1904 c32_i32_1902
  let v2803 : BitVec 32 := Scalar.remsi v2800 v2802
  let c0_i32_1906 : BitVec 32 := 0#32
  let v2805 : BitVec 1 := Scalar.cmpi .slt v2803 c0_i32_1906
  let c0_i32_1907 : BitVec 32 := 0#32
  let v2806 : BitVec 1 := Scalar.cmpi .slt v2802 c0_i32_1907
  let v2807 : BitVec 1 := Scalar.xori v2805 v2806
  let c0_i32_1905 : BitVec 32 := 0#32
  let v2804 : BitVec 1 := Scalar.cmpi .ne v2803 c0_i32_1905
  let v2808 : BitVec 1 := Scalar.andi v2807 v2804
  let v2809 : BitVec 32 := Scalar.addi v2803 v2802
  let v2810 : BitVec 32 := Scalar.select v2808 v2809 v2803
  let c1_i32_1909 : BitVec 32 := 1#32
  let v2811 : BitVec 32 := Scalar.muli v2810 c1_i32_1909
  let v2812 : BitVec 32 := Scalar.addi c0_i32_1910 v2811
  v2812.toNat
def k0_dev69 (d0 : Dev nD) : Nat :=
  let c0_i32_1924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1915 : BitVec 32 := 7#32
  let v2821 : BitVec 32 := Scalar.addi v2 c7_i32_1915
  let c32_i32_1916 : BitVec 32 := 32#32
  let c0_i32_1917 : BitVec 32 := 0#32
  let v2822 : BitVec 1 := Scalar.cmpi .eq c32_i32_1916 c0_i32_1917
  let c1_i32_1918 : BitVec 32 := 1#32
  let v2823 : BitVec 32 := Scalar.select v2822 c1_i32_1918 c32_i32_1916
  let v2824 : BitVec 32 := Scalar.remsi v2821 v2823
  let c0_i32_1920 : BitVec 32 := 0#32
  let v2826 : BitVec 1 := Scalar.cmpi .slt v2824 c0_i32_1920
  let c0_i32_1921 : BitVec 32 := 0#32
  let v2827 : BitVec 1 := Scalar.cmpi .slt v2823 c0_i32_1921
  let v2828 : BitVec 1 := Scalar.xori v2826 v2827
  let c0_i32_1919 : BitVec 32 := 0#32
  let v2825 : BitVec 1 := Scalar.cmpi .ne v2824 c0_i32_1919
  let v2829 : BitVec 1 := Scalar.andi v2828 v2825
  let v2830 : BitVec 32 := Scalar.addi v2824 v2823
  let v2831 : BitVec 32 := Scalar.select v2829 v2830 v2824
  let c1_i32_1923 : BitVec 32 := 1#32
  let v2832 : BitVec 32 := Scalar.muli v2831 c1_i32_1923
  let v2833 : BitVec 32 := Scalar.addi c0_i32_1924 v2832
  v2833.toNat
def k0_dev70 (d0 : Dev nD) : Nat :=
  let c0_i32_1938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1929 : BitVec 32 := 8#32
  let v2842 : BitVec 32 := Scalar.addi v2 c8_i32_1929
  let c32_i32_1930 : BitVec 32 := 32#32
  let c0_i32_1931 : BitVec 32 := 0#32
  let v2843 : BitVec 1 := Scalar.cmpi .eq c32_i32_1930 c0_i32_1931
  let c1_i32_1932 : BitVec 32 := 1#32
  let v2844 : BitVec 32 := Scalar.select v2843 c1_i32_1932 c32_i32_1930
  let v2845 : BitVec 32 := Scalar.remsi v2842 v2844
  let c0_i32_1934 : BitVec 32 := 0#32
  let v2847 : BitVec 1 := Scalar.cmpi .slt v2845 c0_i32_1934
  let c0_i32_1935 : BitVec 32 := 0#32
  let v2848 : BitVec 1 := Scalar.cmpi .slt v2844 c0_i32_1935
  let v2849 : BitVec 1 := Scalar.xori v2847 v2848
  let c0_i32_1933 : BitVec 32 := 0#32
  let v2846 : BitVec 1 := Scalar.cmpi .ne v2845 c0_i32_1933
  let v2850 : BitVec 1 := Scalar.andi v2849 v2846
  let v2851 : BitVec 32 := Scalar.addi v2845 v2844
  let v2852 : BitVec 32 := Scalar.select v2850 v2851 v2845
  let c1_i32_1937 : BitVec 32 := 1#32
  let v2853 : BitVec 32 := Scalar.muli v2852 c1_i32_1937
  let v2854 : BitVec 32 := Scalar.addi c0_i32_1938 v2853
  v2854.toNat
def k0_dev71 (d0 : Dev nD) : Nat :=
  let c0_i32_1952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1943 : BitVec 32 := 9#32
  let v2863 : BitVec 32 := Scalar.addi v2 c9_i32_1943
  let c32_i32_1944 : BitVec 32 := 32#32
  let c0_i32_1945 : BitVec 32 := 0#32
  let v2864 : BitVec 1 := Scalar.cmpi .eq c32_i32_1944 c0_i32_1945
  let c1_i32_1946 : BitVec 32 := 1#32
  let v2865 : BitVec 32 := Scalar.select v2864 c1_i32_1946 c32_i32_1944
  let v2866 : BitVec 32 := Scalar.remsi v2863 v2865
  let c0_i32_1948 : BitVec 32 := 0#32
  let v2868 : BitVec 1 := Scalar.cmpi .slt v2866 c0_i32_1948
  let c0_i32_1949 : BitVec 32 := 0#32
  let v2869 : BitVec 1 := Scalar.cmpi .slt v2865 c0_i32_1949
  let v2870 : BitVec 1 := Scalar.xori v2868 v2869
  let c0_i32_1947 : BitVec 32 := 0#32
  let v2867 : BitVec 1 := Scalar.cmpi .ne v2866 c0_i32_1947
  let v2871 : BitVec 1 := Scalar.andi v2870 v2867
  let v2872 : BitVec 32 := Scalar.addi v2866 v2865
  let v2873 : BitVec 32 := Scalar.select v2871 v2872 v2866
  let c1_i32_1951 : BitVec 32 := 1#32
  let v2874 : BitVec 32 := Scalar.muli v2873 c1_i32_1951
  let v2875 : BitVec 32 := Scalar.addi c0_i32_1952 v2874
  v2875.toNat
def k0_dev72 (d0 : Dev nD) : Nat :=
  let c0_i32_1966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1957 : BitVec 32 := 10#32
  let v2884 : BitVec 32 := Scalar.addi v2 c10_i32_1957
  let c32_i32_1958 : BitVec 32 := 32#32
  let c0_i32_1959 : BitVec 32 := 0#32
  let v2885 : BitVec 1 := Scalar.cmpi .eq c32_i32_1958 c0_i32_1959
  let c1_i32_1960 : BitVec 32 := 1#32
  let v2886 : BitVec 32 := Scalar.select v2885 c1_i32_1960 c32_i32_1958
  let v2887 : BitVec 32 := Scalar.remsi v2884 v2886
  let c0_i32_1962 : BitVec 32 := 0#32
  let v2889 : BitVec 1 := Scalar.cmpi .slt v2887 c0_i32_1962
  let c0_i32_1963 : BitVec 32 := 0#32
  let v2890 : BitVec 1 := Scalar.cmpi .slt v2886 c0_i32_1963
  let v2891 : BitVec 1 := Scalar.xori v2889 v2890
  let c0_i32_1961 : BitVec 32 := 0#32
  let v2888 : BitVec 1 := Scalar.cmpi .ne v2887 c0_i32_1961
  let v2892 : BitVec 1 := Scalar.andi v2891 v2888
  let v2893 : BitVec 32 := Scalar.addi v2887 v2886
  let v2894 : BitVec 32 := Scalar.select v2892 v2893 v2887
  let c1_i32_1965 : BitVec 32 := 1#32
  let v2895 : BitVec 32 := Scalar.muli v2894 c1_i32_1965
  let v2896 : BitVec 32 := Scalar.addi c0_i32_1966 v2895
  v2896.toNat
def k0_dev73 (d0 : Dev nD) : Nat :=
  let c0_i32_1980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1971 : BitVec 32 := 11#32
  let v2905 : BitVec 32 := Scalar.addi v2 c11_i32_1971
  let c32_i32_1972 : BitVec 32 := 32#32
  let c0_i32_1973 : BitVec 32 := 0#32
  let v2906 : BitVec 1 := Scalar.cmpi .eq c32_i32_1972 c0_i32_1973
  let c1_i32_1974 : BitVec 32 := 1#32
  let v2907 : BitVec 32 := Scalar.select v2906 c1_i32_1974 c32_i32_1972
  let v2908 : BitVec 32 := Scalar.remsi v2905 v2907
  let c0_i32_1976 : BitVec 32 := 0#32
  let v2910 : BitVec 1 := Scalar.cmpi .slt v2908 c0_i32_1976
  let c0_i32_1977 : BitVec 32 := 0#32
  let v2911 : BitVec 1 := Scalar.cmpi .slt v2907 c0_i32_1977
  let v2912 : BitVec 1 := Scalar.xori v2910 v2911
  let c0_i32_1975 : BitVec 32 := 0#32
  let v2909 : BitVec 1 := Scalar.cmpi .ne v2908 c0_i32_1975
  let v2913 : BitVec 1 := Scalar.andi v2912 v2909
  let v2914 : BitVec 32 := Scalar.addi v2908 v2907
  let v2915 : BitVec 32 := Scalar.select v2913 v2914 v2908
  let c1_i32_1979 : BitVec 32 := 1#32
  let v2916 : BitVec 32 := Scalar.muli v2915 c1_i32_1979
  let v2917 : BitVec 32 := Scalar.addi c0_i32_1980 v2916
  v2917.toNat
def k0_dev74 (d0 : Dev nD) : Nat :=
  let c0_i32_1994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1985 : BitVec 32 := 12#32
  let v2926 : BitVec 32 := Scalar.addi v2 c12_i32_1985
  let c32_i32_1986 : BitVec 32 := 32#32
  let c0_i32_1987 : BitVec 32 := 0#32
  let v2927 : BitVec 1 := Scalar.cmpi .eq c32_i32_1986 c0_i32_1987
  let c1_i32_1988 : BitVec 32 := 1#32
  let v2928 : BitVec 32 := Scalar.select v2927 c1_i32_1988 c32_i32_1986
  let v2929 : BitVec 32 := Scalar.remsi v2926 v2928
  let c0_i32_1990 : BitVec 32 := 0#32
  let v2931 : BitVec 1 := Scalar.cmpi .slt v2929 c0_i32_1990
  let c0_i32_1991 : BitVec 32 := 0#32
  let v2932 : BitVec 1 := Scalar.cmpi .slt v2928 c0_i32_1991
  let v2933 : BitVec 1 := Scalar.xori v2931 v2932
  let c0_i32_1989 : BitVec 32 := 0#32
  let v2930 : BitVec 1 := Scalar.cmpi .ne v2929 c0_i32_1989
  let v2934 : BitVec 1 := Scalar.andi v2933 v2930
  let v2935 : BitVec 32 := Scalar.addi v2929 v2928
  let v2936 : BitVec 32 := Scalar.select v2934 v2935 v2929
  let c1_i32_1993 : BitVec 32 := 1#32
  let v2937 : BitVec 32 := Scalar.muli v2936 c1_i32_1993
  let v2938 : BitVec 32 := Scalar.addi c0_i32_1994 v2937
  v2938.toNat
def k0_dev75 (d0 : Dev nD) : Nat :=
  let c0_i32_2008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1999 : BitVec 32 := 13#32
  let v2947 : BitVec 32 := Scalar.addi v2 c13_i32_1999
  let c32_i32_2000 : BitVec 32 := 32#32
  let c0_i32_2001 : BitVec 32 := 0#32
  let v2948 : BitVec 1 := Scalar.cmpi .eq c32_i32_2000 c0_i32_2001
  let c1_i32_2002 : BitVec 32 := 1#32
  let v2949 : BitVec 32 := Scalar.select v2948 c1_i32_2002 c32_i32_2000
  let v2950 : BitVec 32 := Scalar.remsi v2947 v2949
  let c0_i32_2004 : BitVec 32 := 0#32
  let v2952 : BitVec 1 := Scalar.cmpi .slt v2950 c0_i32_2004
  let c0_i32_2005 : BitVec 32 := 0#32
  let v2953 : BitVec 1 := Scalar.cmpi .slt v2949 c0_i32_2005
  let v2954 : BitVec 1 := Scalar.xori v2952 v2953
  let c0_i32_2003 : BitVec 32 := 0#32
  let v2951 : BitVec 1 := Scalar.cmpi .ne v2950 c0_i32_2003
  let v2955 : BitVec 1 := Scalar.andi v2954 v2951
  let v2956 : BitVec 32 := Scalar.addi v2950 v2949
  let v2957 : BitVec 32 := Scalar.select v2955 v2956 v2950
  let c1_i32_2007 : BitVec 32 := 1#32
  let v2958 : BitVec 32 := Scalar.muli v2957 c1_i32_2007
  let v2959 : BitVec 32 := Scalar.addi c0_i32_2008 v2958
  v2959.toNat
def k0_dev76 (d0 : Dev nD) : Nat :=
  let c0_i32_2022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2013 : BitVec 32 := 14#32
  let v2968 : BitVec 32 := Scalar.addi v2 c14_i32_2013
  let c32_i32_2014 : BitVec 32 := 32#32
  let c0_i32_2015 : BitVec 32 := 0#32
  let v2969 : BitVec 1 := Scalar.cmpi .eq c32_i32_2014 c0_i32_2015
  let c1_i32_2016 : BitVec 32 := 1#32
  let v2970 : BitVec 32 := Scalar.select v2969 c1_i32_2016 c32_i32_2014
  let v2971 : BitVec 32 := Scalar.remsi v2968 v2970
  let c0_i32_2018 : BitVec 32 := 0#32
  let v2973 : BitVec 1 := Scalar.cmpi .slt v2971 c0_i32_2018
  let c0_i32_2019 : BitVec 32 := 0#32
  let v2974 : BitVec 1 := Scalar.cmpi .slt v2970 c0_i32_2019
  let v2975 : BitVec 1 := Scalar.xori v2973 v2974
  let c0_i32_2017 : BitVec 32 := 0#32
  let v2972 : BitVec 1 := Scalar.cmpi .ne v2971 c0_i32_2017
  let v2976 : BitVec 1 := Scalar.andi v2975 v2972
  let v2977 : BitVec 32 := Scalar.addi v2971 v2970
  let v2978 : BitVec 32 := Scalar.select v2976 v2977 v2971
  let c1_i32_2021 : BitVec 32 := 1#32
  let v2979 : BitVec 32 := Scalar.muli v2978 c1_i32_2021
  let v2980 : BitVec 32 := Scalar.addi c0_i32_2022 v2979
  v2980.toNat
def k0_dev77 (d0 : Dev nD) : Nat :=
  let c0_i32_2036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2027 : BitVec 32 := 15#32
  let v2989 : BitVec 32 := Scalar.addi v2 c15_i32_2027
  let c32_i32_2028 : BitVec 32 := 32#32
  let c0_i32_2029 : BitVec 32 := 0#32
  let v2990 : BitVec 1 := Scalar.cmpi .eq c32_i32_2028 c0_i32_2029
  let c1_i32_2030 : BitVec 32 := 1#32
  let v2991 : BitVec 32 := Scalar.select v2990 c1_i32_2030 c32_i32_2028
  let v2992 : BitVec 32 := Scalar.remsi v2989 v2991
  let c0_i32_2032 : BitVec 32 := 0#32
  let v2994 : BitVec 1 := Scalar.cmpi .slt v2992 c0_i32_2032
  let c0_i32_2033 : BitVec 32 := 0#32
  let v2995 : BitVec 1 := Scalar.cmpi .slt v2991 c0_i32_2033
  let v2996 : BitVec 1 := Scalar.xori v2994 v2995
  let c0_i32_2031 : BitVec 32 := 0#32
  let v2993 : BitVec 1 := Scalar.cmpi .ne v2992 c0_i32_2031
  let v2997 : BitVec 1 := Scalar.andi v2996 v2993
  let v2998 : BitVec 32 := Scalar.addi v2992 v2991
  let v2999 : BitVec 32 := Scalar.select v2997 v2998 v2992
  let c1_i32_2035 : BitVec 32 := 1#32
  let v3000 : BitVec 32 := Scalar.muli v2999 c1_i32_2035
  let v3001 : BitVec 32 := Scalar.addi c0_i32_2036 v3000
  v3001.toNat
def k0_dev78 (d0 : Dev nD) : Nat :=
  let c0_i32_2050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2041 : BitVec 32 := 16#32
  let v3010 : BitVec 32 := Scalar.addi v2 c16_i32_2041
  let c32_i32_2042 : BitVec 32 := 32#32
  let c0_i32_2043 : BitVec 32 := 0#32
  let v3011 : BitVec 1 := Scalar.cmpi .eq c32_i32_2042 c0_i32_2043
  let c1_i32_2044 : BitVec 32 := 1#32
  let v3012 : BitVec 32 := Scalar.select v3011 c1_i32_2044 c32_i32_2042
  let v3013 : BitVec 32 := Scalar.remsi v3010 v3012
  let c0_i32_2046 : BitVec 32 := 0#32
  let v3015 : BitVec 1 := Scalar.cmpi .slt v3013 c0_i32_2046
  let c0_i32_2047 : BitVec 32 := 0#32
  let v3016 : BitVec 1 := Scalar.cmpi .slt v3012 c0_i32_2047
  let v3017 : BitVec 1 := Scalar.xori v3015 v3016
  let c0_i32_2045 : BitVec 32 := 0#32
  let v3014 : BitVec 1 := Scalar.cmpi .ne v3013 c0_i32_2045
  let v3018 : BitVec 1 := Scalar.andi v3017 v3014
  let v3019 : BitVec 32 := Scalar.addi v3013 v3012
  let v3020 : BitVec 32 := Scalar.select v3018 v3019 v3013
  let c1_i32_2049 : BitVec 32 := 1#32
  let v3021 : BitVec 32 := Scalar.muli v3020 c1_i32_2049
  let v3022 : BitVec 32 := Scalar.addi c0_i32_2050 v3021
  v3022.toNat
def k0_dev79 (d0 : Dev nD) : Nat :=
  let c0_i32_2064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2055 : BitVec 32 := 17#32
  let v3031 : BitVec 32 := Scalar.addi v2 c17_i32_2055
  let c32_i32_2056 : BitVec 32 := 32#32
  let c0_i32_2057 : BitVec 32 := 0#32
  let v3032 : BitVec 1 := Scalar.cmpi .eq c32_i32_2056 c0_i32_2057
  let c1_i32_2058 : BitVec 32 := 1#32
  let v3033 : BitVec 32 := Scalar.select v3032 c1_i32_2058 c32_i32_2056
  let v3034 : BitVec 32 := Scalar.remsi v3031 v3033
  let c0_i32_2060 : BitVec 32 := 0#32
  let v3036 : BitVec 1 := Scalar.cmpi .slt v3034 c0_i32_2060
  let c0_i32_2061 : BitVec 32 := 0#32
  let v3037 : BitVec 1 := Scalar.cmpi .slt v3033 c0_i32_2061
  let v3038 : BitVec 1 := Scalar.xori v3036 v3037
  let c0_i32_2059 : BitVec 32 := 0#32
  let v3035 : BitVec 1 := Scalar.cmpi .ne v3034 c0_i32_2059
  let v3039 : BitVec 1 := Scalar.andi v3038 v3035
  let v3040 : BitVec 32 := Scalar.addi v3034 v3033
  let v3041 : BitVec 32 := Scalar.select v3039 v3040 v3034
  let c1_i32_2063 : BitVec 32 := 1#32
  let v3042 : BitVec 32 := Scalar.muli v3041 c1_i32_2063
  let v3043 : BitVec 32 := Scalar.addi c0_i32_2064 v3042
  v3043.toNat
def k0_dev80 (d0 : Dev nD) : Nat :=
  let c0_i32_2078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2069 : BitVec 32 := 18#32
  let v3052 : BitVec 32 := Scalar.addi v2 c18_i32_2069
  let c32_i32_2070 : BitVec 32 := 32#32
  let c0_i32_2071 : BitVec 32 := 0#32
  let v3053 : BitVec 1 := Scalar.cmpi .eq c32_i32_2070 c0_i32_2071
  let c1_i32_2072 : BitVec 32 := 1#32
  let v3054 : BitVec 32 := Scalar.select v3053 c1_i32_2072 c32_i32_2070
  let v3055 : BitVec 32 := Scalar.remsi v3052 v3054
  let c0_i32_2074 : BitVec 32 := 0#32
  let v3057 : BitVec 1 := Scalar.cmpi .slt v3055 c0_i32_2074
  let c0_i32_2075 : BitVec 32 := 0#32
  let v3058 : BitVec 1 := Scalar.cmpi .slt v3054 c0_i32_2075
  let v3059 : BitVec 1 := Scalar.xori v3057 v3058
  let c0_i32_2073 : BitVec 32 := 0#32
  let v3056 : BitVec 1 := Scalar.cmpi .ne v3055 c0_i32_2073
  let v3060 : BitVec 1 := Scalar.andi v3059 v3056
  let v3061 : BitVec 32 := Scalar.addi v3055 v3054
  let v3062 : BitVec 32 := Scalar.select v3060 v3061 v3055
  let c1_i32_2077 : BitVec 32 := 1#32
  let v3063 : BitVec 32 := Scalar.muli v3062 c1_i32_2077
  let v3064 : BitVec 32 := Scalar.addi c0_i32_2078 v3063
  v3064.toNat
def k0_dev81 (d0 : Dev nD) : Nat :=
  let c0_i32_2092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2083 : BitVec 32 := 19#32
  let v3073 : BitVec 32 := Scalar.addi v2 c19_i32_2083
  let c32_i32_2084 : BitVec 32 := 32#32
  let c0_i32_2085 : BitVec 32 := 0#32
  let v3074 : BitVec 1 := Scalar.cmpi .eq c32_i32_2084 c0_i32_2085
  let c1_i32_2086 : BitVec 32 := 1#32
  let v3075 : BitVec 32 := Scalar.select v3074 c1_i32_2086 c32_i32_2084
  let v3076 : BitVec 32 := Scalar.remsi v3073 v3075
  let c0_i32_2088 : BitVec 32 := 0#32
  let v3078 : BitVec 1 := Scalar.cmpi .slt v3076 c0_i32_2088
  let c0_i32_2089 : BitVec 32 := 0#32
  let v3079 : BitVec 1 := Scalar.cmpi .slt v3075 c0_i32_2089
  let v3080 : BitVec 1 := Scalar.xori v3078 v3079
  let c0_i32_2087 : BitVec 32 := 0#32
  let v3077 : BitVec 1 := Scalar.cmpi .ne v3076 c0_i32_2087
  let v3081 : BitVec 1 := Scalar.andi v3080 v3077
  let v3082 : BitVec 32 := Scalar.addi v3076 v3075
  let v3083 : BitVec 32 := Scalar.select v3081 v3082 v3076
  let c1_i32_2091 : BitVec 32 := 1#32
  let v3084 : BitVec 32 := Scalar.muli v3083 c1_i32_2091
  let v3085 : BitVec 32 := Scalar.addi c0_i32_2092 v3084
  v3085.toNat
def k0_dev82 (d0 : Dev nD) : Nat :=
  let c0_i32_2106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2097 : BitVec 32 := 20#32
  let v3094 : BitVec 32 := Scalar.addi v2 c20_i32_2097
  let c32_i32_2098 : BitVec 32 := 32#32
  let c0_i32_2099 : BitVec 32 := 0#32
  let v3095 : BitVec 1 := Scalar.cmpi .eq c32_i32_2098 c0_i32_2099
  let c1_i32_2100 : BitVec 32 := 1#32
  let v3096 : BitVec 32 := Scalar.select v3095 c1_i32_2100 c32_i32_2098
  let v3097 : BitVec 32 := Scalar.remsi v3094 v3096
  let c0_i32_2102 : BitVec 32 := 0#32
  let v3099 : BitVec 1 := Scalar.cmpi .slt v3097 c0_i32_2102
  let c0_i32_2103 : BitVec 32 := 0#32
  let v3100 : BitVec 1 := Scalar.cmpi .slt v3096 c0_i32_2103
  let v3101 : BitVec 1 := Scalar.xori v3099 v3100
  let c0_i32_2101 : BitVec 32 := 0#32
  let v3098 : BitVec 1 := Scalar.cmpi .ne v3097 c0_i32_2101
  let v3102 : BitVec 1 := Scalar.andi v3101 v3098
  let v3103 : BitVec 32 := Scalar.addi v3097 v3096
  let v3104 : BitVec 32 := Scalar.select v3102 v3103 v3097
  let c1_i32_2105 : BitVec 32 := 1#32
  let v3105 : BitVec 32 := Scalar.muli v3104 c1_i32_2105
  let v3106 : BitVec 32 := Scalar.addi c0_i32_2106 v3105
  v3106.toNat
def k0_dev83 (d0 : Dev nD) : Nat :=
  let c0_i32_2120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2111 : BitVec 32 := 21#32
  let v3115 : BitVec 32 := Scalar.addi v2 c21_i32_2111
  let c32_i32_2112 : BitVec 32 := 32#32
  let c0_i32_2113 : BitVec 32 := 0#32
  let v3116 : BitVec 1 := Scalar.cmpi .eq c32_i32_2112 c0_i32_2113
  let c1_i32_2114 : BitVec 32 := 1#32
  let v3117 : BitVec 32 := Scalar.select v3116 c1_i32_2114 c32_i32_2112
  let v3118 : BitVec 32 := Scalar.remsi v3115 v3117
  let c0_i32_2116 : BitVec 32 := 0#32
  let v3120 : BitVec 1 := Scalar.cmpi .slt v3118 c0_i32_2116
  let c0_i32_2117 : BitVec 32 := 0#32
  let v3121 : BitVec 1 := Scalar.cmpi .slt v3117 c0_i32_2117
  let v3122 : BitVec 1 := Scalar.xori v3120 v3121
  let c0_i32_2115 : BitVec 32 := 0#32
  let v3119 : BitVec 1 := Scalar.cmpi .ne v3118 c0_i32_2115
  let v3123 : BitVec 1 := Scalar.andi v3122 v3119
  let v3124 : BitVec 32 := Scalar.addi v3118 v3117
  let v3125 : BitVec 32 := Scalar.select v3123 v3124 v3118
  let c1_i32_2119 : BitVec 32 := 1#32
  let v3126 : BitVec 32 := Scalar.muli v3125 c1_i32_2119
  let v3127 : BitVec 32 := Scalar.addi c0_i32_2120 v3126
  v3127.toNat
def k0_dev84 (d0 : Dev nD) : Nat :=
  let c0_i32_2134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2125 : BitVec 32 := 22#32
  let v3136 : BitVec 32 := Scalar.addi v2 c22_i32_2125
  let c32_i32_2126 : BitVec 32 := 32#32
  let c0_i32_2127 : BitVec 32 := 0#32
  let v3137 : BitVec 1 := Scalar.cmpi .eq c32_i32_2126 c0_i32_2127
  let c1_i32_2128 : BitVec 32 := 1#32
  let v3138 : BitVec 32 := Scalar.select v3137 c1_i32_2128 c32_i32_2126
  let v3139 : BitVec 32 := Scalar.remsi v3136 v3138
  let c0_i32_2130 : BitVec 32 := 0#32
  let v3141 : BitVec 1 := Scalar.cmpi .slt v3139 c0_i32_2130
  let c0_i32_2131 : BitVec 32 := 0#32
  let v3142 : BitVec 1 := Scalar.cmpi .slt v3138 c0_i32_2131
  let v3143 : BitVec 1 := Scalar.xori v3141 v3142
  let c0_i32_2129 : BitVec 32 := 0#32
  let v3140 : BitVec 1 := Scalar.cmpi .ne v3139 c0_i32_2129
  let v3144 : BitVec 1 := Scalar.andi v3143 v3140
  let v3145 : BitVec 32 := Scalar.addi v3139 v3138
  let v3146 : BitVec 32 := Scalar.select v3144 v3145 v3139
  let c1_i32_2133 : BitVec 32 := 1#32
  let v3147 : BitVec 32 := Scalar.muli v3146 c1_i32_2133
  let v3148 : BitVec 32 := Scalar.addi c0_i32_2134 v3147
  v3148.toNat
def k0_dev85 (d0 : Dev nD) : Nat :=
  let c0_i32_2148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2139 : BitVec 32 := 23#32
  let v3157 : BitVec 32 := Scalar.addi v2 c23_i32_2139
  let c32_i32_2140 : BitVec 32 := 32#32
  let c0_i32_2141 : BitVec 32 := 0#32
  let v3158 : BitVec 1 := Scalar.cmpi .eq c32_i32_2140 c0_i32_2141
  let c1_i32_2142 : BitVec 32 := 1#32
  let v3159 : BitVec 32 := Scalar.select v3158 c1_i32_2142 c32_i32_2140
  let v3160 : BitVec 32 := Scalar.remsi v3157 v3159
  let c0_i32_2144 : BitVec 32 := 0#32
  let v3162 : BitVec 1 := Scalar.cmpi .slt v3160 c0_i32_2144
  let c0_i32_2145 : BitVec 32 := 0#32
  let v3163 : BitVec 1 := Scalar.cmpi .slt v3159 c0_i32_2145
  let v3164 : BitVec 1 := Scalar.xori v3162 v3163
  let c0_i32_2143 : BitVec 32 := 0#32
  let v3161 : BitVec 1 := Scalar.cmpi .ne v3160 c0_i32_2143
  let v3165 : BitVec 1 := Scalar.andi v3164 v3161
  let v3166 : BitVec 32 := Scalar.addi v3160 v3159
  let v3167 : BitVec 32 := Scalar.select v3165 v3166 v3160
  let c1_i32_2147 : BitVec 32 := 1#32
  let v3168 : BitVec 32 := Scalar.muli v3167 c1_i32_2147
  let v3169 : BitVec 32 := Scalar.addi c0_i32_2148 v3168
  v3169.toNat
def k0_dev86 (d0 : Dev nD) : Nat :=
  let c0_i32_2162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2153 : BitVec 32 := 24#32
  let v3178 : BitVec 32 := Scalar.addi v2 c24_i32_2153
  let c32_i32_2154 : BitVec 32 := 32#32
  let c0_i32_2155 : BitVec 32 := 0#32
  let v3179 : BitVec 1 := Scalar.cmpi .eq c32_i32_2154 c0_i32_2155
  let c1_i32_2156 : BitVec 32 := 1#32
  let v3180 : BitVec 32 := Scalar.select v3179 c1_i32_2156 c32_i32_2154
  let v3181 : BitVec 32 := Scalar.remsi v3178 v3180
  let c0_i32_2158 : BitVec 32 := 0#32
  let v3183 : BitVec 1 := Scalar.cmpi .slt v3181 c0_i32_2158
  let c0_i32_2159 : BitVec 32 := 0#32
  let v3184 : BitVec 1 := Scalar.cmpi .slt v3180 c0_i32_2159
  let v3185 : BitVec 1 := Scalar.xori v3183 v3184
  let c0_i32_2157 : BitVec 32 := 0#32
  let v3182 : BitVec 1 := Scalar.cmpi .ne v3181 c0_i32_2157
  let v3186 : BitVec 1 := Scalar.andi v3185 v3182
  let v3187 : BitVec 32 := Scalar.addi v3181 v3180
  let v3188 : BitVec 32 := Scalar.select v3186 v3187 v3181
  let c1_i32_2161 : BitVec 32 := 1#32
  let v3189 : BitVec 32 := Scalar.muli v3188 c1_i32_2161
  let v3190 : BitVec 32 := Scalar.addi c0_i32_2162 v3189
  v3190.toNat
def k0_dev87 (d0 : Dev nD) : Nat :=
  let c0_i32_2176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2167 : BitVec 32 := 25#32
  let v3199 : BitVec 32 := Scalar.addi v2 c25_i32_2167
  let c32_i32_2168 : BitVec 32 := 32#32
  let c0_i32_2169 : BitVec 32 := 0#32
  let v3200 : BitVec 1 := Scalar.cmpi .eq c32_i32_2168 c0_i32_2169
  let c1_i32_2170 : BitVec 32 := 1#32
  let v3201 : BitVec 32 := Scalar.select v3200 c1_i32_2170 c32_i32_2168
  let v3202 : BitVec 32 := Scalar.remsi v3199 v3201
  let c0_i32_2172 : BitVec 32 := 0#32
  let v3204 : BitVec 1 := Scalar.cmpi .slt v3202 c0_i32_2172
  let c0_i32_2173 : BitVec 32 := 0#32
  let v3205 : BitVec 1 := Scalar.cmpi .slt v3201 c0_i32_2173
  let v3206 : BitVec 1 := Scalar.xori v3204 v3205
  let c0_i32_2171 : BitVec 32 := 0#32
  let v3203 : BitVec 1 := Scalar.cmpi .ne v3202 c0_i32_2171
  let v3207 : BitVec 1 := Scalar.andi v3206 v3203
  let v3208 : BitVec 32 := Scalar.addi v3202 v3201
  let v3209 : BitVec 32 := Scalar.select v3207 v3208 v3202
  let c1_i32_2175 : BitVec 32 := 1#32
  let v3210 : BitVec 32 := Scalar.muli v3209 c1_i32_2175
  let v3211 : BitVec 32 := Scalar.addi c0_i32_2176 v3210
  v3211.toNat
def k0_dev88 (d0 : Dev nD) : Nat :=
  let c0_i32_2190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2181 : BitVec 32 := 26#32
  let v3220 : BitVec 32 := Scalar.addi v2 c26_i32_2181
  let c32_i32_2182 : BitVec 32 := 32#32
  let c0_i32_2183 : BitVec 32 := 0#32
  let v3221 : BitVec 1 := Scalar.cmpi .eq c32_i32_2182 c0_i32_2183
  let c1_i32_2184 : BitVec 32 := 1#32
  let v3222 : BitVec 32 := Scalar.select v3221 c1_i32_2184 c32_i32_2182
  let v3223 : BitVec 32 := Scalar.remsi v3220 v3222
  let c0_i32_2186 : BitVec 32 := 0#32
  let v3225 : BitVec 1 := Scalar.cmpi .slt v3223 c0_i32_2186
  let c0_i32_2187 : BitVec 32 := 0#32
  let v3226 : BitVec 1 := Scalar.cmpi .slt v3222 c0_i32_2187
  let v3227 : BitVec 1 := Scalar.xori v3225 v3226
  let c0_i32_2185 : BitVec 32 := 0#32
  let v3224 : BitVec 1 := Scalar.cmpi .ne v3223 c0_i32_2185
  let v3228 : BitVec 1 := Scalar.andi v3227 v3224
  let v3229 : BitVec 32 := Scalar.addi v3223 v3222
  let v3230 : BitVec 32 := Scalar.select v3228 v3229 v3223
  let c1_i32_2189 : BitVec 32 := 1#32
  let v3231 : BitVec 32 := Scalar.muli v3230 c1_i32_2189
  let v3232 : BitVec 32 := Scalar.addi c0_i32_2190 v3231
  v3232.toNat
def k0_dev89 (d0 : Dev nD) : Nat :=
  let c0_i32_2204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2195 : BitVec 32 := 27#32
  let v3241 : BitVec 32 := Scalar.addi v2 c27_i32_2195
  let c32_i32_2196 : BitVec 32 := 32#32
  let c0_i32_2197 : BitVec 32 := 0#32
  let v3242 : BitVec 1 := Scalar.cmpi .eq c32_i32_2196 c0_i32_2197
  let c1_i32_2198 : BitVec 32 := 1#32
  let v3243 : BitVec 32 := Scalar.select v3242 c1_i32_2198 c32_i32_2196
  let v3244 : BitVec 32 := Scalar.remsi v3241 v3243
  let c0_i32_2200 : BitVec 32 := 0#32
  let v3246 : BitVec 1 := Scalar.cmpi .slt v3244 c0_i32_2200
  let c0_i32_2201 : BitVec 32 := 0#32
  let v3247 : BitVec 1 := Scalar.cmpi .slt v3243 c0_i32_2201
  let v3248 : BitVec 1 := Scalar.xori v3246 v3247
  let c0_i32_2199 : BitVec 32 := 0#32
  let v3245 : BitVec 1 := Scalar.cmpi .ne v3244 c0_i32_2199
  let v3249 : BitVec 1 := Scalar.andi v3248 v3245
  let v3250 : BitVec 32 := Scalar.addi v3244 v3243
  let v3251 : BitVec 32 := Scalar.select v3249 v3250 v3244
  let c1_i32_2203 : BitVec 32 := 1#32
  let v3252 : BitVec 32 := Scalar.muli v3251 c1_i32_2203
  let v3253 : BitVec 32 := Scalar.addi c0_i32_2204 v3252
  v3253.toNat
def k0_dev90 (d0 : Dev nD) : Nat :=
  let c0_i32_2218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2209 : BitVec 32 := 28#32
  let v3262 : BitVec 32 := Scalar.addi v2 c28_i32_2209
  let c32_i32_2210 : BitVec 32 := 32#32
  let c0_i32_2211 : BitVec 32 := 0#32
  let v3263 : BitVec 1 := Scalar.cmpi .eq c32_i32_2210 c0_i32_2211
  let c1_i32_2212 : BitVec 32 := 1#32
  let v3264 : BitVec 32 := Scalar.select v3263 c1_i32_2212 c32_i32_2210
  let v3265 : BitVec 32 := Scalar.remsi v3262 v3264
  let c0_i32_2214 : BitVec 32 := 0#32
  let v3267 : BitVec 1 := Scalar.cmpi .slt v3265 c0_i32_2214
  let c0_i32_2215 : BitVec 32 := 0#32
  let v3268 : BitVec 1 := Scalar.cmpi .slt v3264 c0_i32_2215
  let v3269 : BitVec 1 := Scalar.xori v3267 v3268
  let c0_i32_2213 : BitVec 32 := 0#32
  let v3266 : BitVec 1 := Scalar.cmpi .ne v3265 c0_i32_2213
  let v3270 : BitVec 1 := Scalar.andi v3269 v3266
  let v3271 : BitVec 32 := Scalar.addi v3265 v3264
  let v3272 : BitVec 32 := Scalar.select v3270 v3271 v3265
  let c1_i32_2217 : BitVec 32 := 1#32
  let v3273 : BitVec 32 := Scalar.muli v3272 c1_i32_2217
  let v3274 : BitVec 32 := Scalar.addi c0_i32_2218 v3273
  v3274.toNat
def k0_dev91 (d0 : Dev nD) : Nat :=
  let c0_i32_2232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2223 : BitVec 32 := 29#32
  let v3283 : BitVec 32 := Scalar.addi v2 c29_i32_2223
  let c32_i32_2224 : BitVec 32 := 32#32
  let c0_i32_2225 : BitVec 32 := 0#32
  let v3284 : BitVec 1 := Scalar.cmpi .eq c32_i32_2224 c0_i32_2225
  let c1_i32_2226 : BitVec 32 := 1#32
  let v3285 : BitVec 32 := Scalar.select v3284 c1_i32_2226 c32_i32_2224
  let v3286 : BitVec 32 := Scalar.remsi v3283 v3285
  let c0_i32_2228 : BitVec 32 := 0#32
  let v3288 : BitVec 1 := Scalar.cmpi .slt v3286 c0_i32_2228
  let c0_i32_2229 : BitVec 32 := 0#32
  let v3289 : BitVec 1 := Scalar.cmpi .slt v3285 c0_i32_2229
  let v3290 : BitVec 1 := Scalar.xori v3288 v3289
  let c0_i32_2227 : BitVec 32 := 0#32
  let v3287 : BitVec 1 := Scalar.cmpi .ne v3286 c0_i32_2227
  let v3291 : BitVec 1 := Scalar.andi v3290 v3287
  let v3292 : BitVec 32 := Scalar.addi v3286 v3285
  let v3293 : BitVec 32 := Scalar.select v3291 v3292 v3286
  let c1_i32_2231 : BitVec 32 := 1#32
  let v3294 : BitVec 32 := Scalar.muli v3293 c1_i32_2231
  let v3295 : BitVec 32 := Scalar.addi c0_i32_2232 v3294
  v3295.toNat
def k0_dev92 (d0 : Dev nD) : Nat :=
  let c0_i32_2246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2237 : BitVec 32 := 30#32
  let v3304 : BitVec 32 := Scalar.addi v2 c30_i32_2237
  let c32_i32_2238 : BitVec 32 := 32#32
  let c0_i32_2239 : BitVec 32 := 0#32
  let v3305 : BitVec 1 := Scalar.cmpi .eq c32_i32_2238 c0_i32_2239
  let c1_i32_2240 : BitVec 32 := 1#32
  let v3306 : BitVec 32 := Scalar.select v3305 c1_i32_2240 c32_i32_2238
  let v3307 : BitVec 32 := Scalar.remsi v3304 v3306
  let c0_i32_2242 : BitVec 32 := 0#32
  let v3309 : BitVec 1 := Scalar.cmpi .slt v3307 c0_i32_2242
  let c0_i32_2243 : BitVec 32 := 0#32
  let v3310 : BitVec 1 := Scalar.cmpi .slt v3306 c0_i32_2243
  let v3311 : BitVec 1 := Scalar.xori v3309 v3310
  let c0_i32_2241 : BitVec 32 := 0#32
  let v3308 : BitVec 1 := Scalar.cmpi .ne v3307 c0_i32_2241
  let v3312 : BitVec 1 := Scalar.andi v3311 v3308
  let v3313 : BitVec 32 := Scalar.addi v3307 v3306
  let v3314 : BitVec 32 := Scalar.select v3312 v3313 v3307
  let c1_i32_2245 : BitVec 32 := 1#32
  let v3315 : BitVec 32 := Scalar.muli v3314 c1_i32_2245
  let v3316 : BitVec 32 := Scalar.addi c0_i32_2246 v3315
  v3316.toNat
def k0_dev93 (d0 : Dev nD) : Nat :=
  let c0_i32_2260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2251 : BitVec 32 := 31#32
  let v3325 : BitVec 32 := Scalar.addi v2 c31_i32_2251
  let c32_i32_2252 : BitVec 32 := 32#32
  let c0_i32_2253 : BitVec 32 := 0#32
  let v3326 : BitVec 1 := Scalar.cmpi .eq c32_i32_2252 c0_i32_2253
  let c1_i32_2254 : BitVec 32 := 1#32
  let v3327 : BitVec 32 := Scalar.select v3326 c1_i32_2254 c32_i32_2252
  let v3328 : BitVec 32 := Scalar.remsi v3325 v3327
  let c0_i32_2256 : BitVec 32 := 0#32
  let v3330 : BitVec 1 := Scalar.cmpi .slt v3328 c0_i32_2256
  let c0_i32_2257 : BitVec 32 := 0#32
  let v3331 : BitVec 1 := Scalar.cmpi .slt v3327 c0_i32_2257
  let v3332 : BitVec 1 := Scalar.xori v3330 v3331
  let c0_i32_2255 : BitVec 32 := 0#32
  let v3329 : BitVec 1 := Scalar.cmpi .ne v3328 c0_i32_2255
  let v3333 : BitVec 1 := Scalar.andi v3332 v3329
  let v3334 : BitVec 32 := Scalar.addi v3328 v3327
  let v3335 : BitVec 32 := Scalar.select v3333 v3334 v3328
  let c1_i32_2259 : BitVec 32 := 1#32
  let v3336 : BitVec 32 := Scalar.muli v3335 c1_i32_2259
  let v3337 : BitVec 32 := Scalar.addi c0_i32_2260 v3336
  v3337.toNat
def k0_off9 (d0 : Dev nD) (c31_i32_2265 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3346 : BitVec 32 := Scalar.addi v2 c31_i32_2265
  let c32_i32_2266 : BitVec 32 := 32#32
  let c0_i32_2267 : BitVec 32 := 0#32
  let v3347 : BitVec 1 := Scalar.cmpi .eq c32_i32_2266 c0_i32_2267
  let c1_i32_2268 : BitVec 32 := 1#32
  let v3348 : BitVec 32 := Scalar.select v3347 c1_i32_2268 c32_i32_2266
  let v3349 : BitVec 32 := Scalar.remsi v3346 v3348
  let c0_i32_2270 : BitVec 32 := 0#32
  let v3351 : BitVec 1 := Scalar.cmpi .slt v3349 c0_i32_2270
  let c0_i32_2271 : BitVec 32 := 0#32
  let v3352 : BitVec 1 := Scalar.cmpi .slt v3348 c0_i32_2271
  let v3353 : BitVec 1 := Scalar.xori v3351 v3352
  let c0_i32_2269 : BitVec 32 := 0#32
  let v3350 : BitVec 1 := Scalar.cmpi .ne v3349 c0_i32_2269
  let v3354 : BitVec 1 := Scalar.andi v3353 v3350
  let v3355 : BitVec 32 := Scalar.addi v3349 v3348
  let v3356 : BitVec 32 := Scalar.select v3354 v3355 v3349
  ![v3356.toNat]
def k0_off10 (d0 : Dev nD) (c31_i32_2265 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3346 : BitVec 32 := Scalar.addi v2 c31_i32_2265
  let c32_i32_2266 : BitVec 32 := 32#32
  let c0_i32_2267 : BitVec 32 := 0#32
  let v3347 : BitVec 1 := Scalar.cmpi .eq c32_i32_2266 c0_i32_2267
  let c1_i32_2268 : BitVec 32 := 1#32
  let v3348 : BitVec 32 := Scalar.select v3347 c1_i32_2268 c32_i32_2266
  let v3349 : BitVec 32 := Scalar.remsi v3346 v3348
  let c0_i32_2270 : BitVec 32 := 0#32
  let v3351 : BitVec 1 := Scalar.cmpi .slt v3349 c0_i32_2270
  let c0_i32_2271 : BitVec 32 := 0#32
  let v3352 : BitVec 1 := Scalar.cmpi .slt v3348 c0_i32_2271
  let v3353 : BitVec 1 := Scalar.xori v3351 v3352
  let c0_i32_2269 : BitVec 32 := 0#32
  let v3350 : BitVec 1 := Scalar.cmpi .ne v3349 c0_i32_2269
  let v3354 : BitVec 1 := Scalar.andi v3353 v3350
  let v3355 : BitVec 32 := Scalar.addi v3349 v3348
  let v3356 : BitVec 32 := Scalar.select v3354 v3355 v3349
  let c0_i32_2275 : BitVec 32 := 0#32
  let c0_i32_2276 : BitVec 32 := 0#32
  ![v3356.toNat, 0, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v3973 : BitVec 32 := Scalar.muli v2 c128_i32
  let v3974 : Index := Scalar.indexCast v3973
  let c0_2716 : Index := 0#32
  ![v3974.toNat, 0]
def k0_off12 (d0 : Dev nD) (c31_i32_2717 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3976 : BitVec 32 := Scalar.addi v2 c31_i32_2717
  let c32_i32_2718 : BitVec 32 := 32#32
  let c0_i32_2719 : BitVec 32 := 0#32
  let v3977 : BitVec 1 := Scalar.cmpi .eq c32_i32_2718 c0_i32_2719
  let c1_i32_2720 : BitVec 32 := 1#32
  let v3978 : BitVec 32 := Scalar.select v3977 c1_i32_2720 c32_i32_2718
  let v3979 : BitVec 32 := Scalar.remsi v3976 v3978
  let c0_i32_2722 : BitVec 32 := 0#32
  let v3981 : BitVec 1 := Scalar.cmpi .slt v3979 c0_i32_2722
  let c0_i32_2723 : BitVec 32 := 0#32
  let v3982 : BitVec 1 := Scalar.cmpi .slt v3978 c0_i32_2723
  let v3983 : BitVec 1 := Scalar.xori v3981 v3982
  let c0_i32_2721 : BitVec 32 := 0#32
  let v3980 : BitVec 1 := Scalar.cmpi .ne v3979 c0_i32_2721
  let v3984 : BitVec 1 := Scalar.andi v3983 v3980
  let v3985 : BitVec 32 := Scalar.addi v3979 v3978
  let v3986 : BitVec 32 := Scalar.select v3984 v3985 v3979
  let c128_i32_2742 : BitVec 32 := 128#32
  let v4026 : BitVec 32 := Scalar.muli v3986 c128_i32_2742
  let v4027 : Index := Scalar.indexCast v4026
  let c0_2743 : Index := 0#32
  ![v4027.toNat, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 4
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Body.lean ====
/- The kernel's body as five loops over the peers' distance, and the proof that it IS the printed
   body. The printed body is straight-line text, one copy of each loop body per distance; the loops
   here are recursions over a list of distances, with every offset and device still the printed
   word computation at that distance. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Tactic

@[expose] public section

noncomputable section

namespace Cert.KernelIdeal.Dist

open Cert.KernelIdeal.Gen
open Idealize.ShloMosaic Idealize.ShloMosaic.TcCoe
open Idealize.SL Idealize.SL.Sem

variable {F : FTy → Type} [FloatOps F]

/-- The programs of a device's TensorCore. -/
abbrev TcProg (F : FTy → Type) := Prog (TpuEff nD τ sig (Elt F) Λ₀ .tc) PUnit

/-! ## The memory the body works on -/

/-- The staged block of `x`. -/
abbrev mX : Memref sig .tc .vmem S128x4096 .f32 := Memref.whole cc0_stg0_0
/-- The whole of `w`, in HBM. -/
abbrev mW : Memref sig .tc .hbm S4096x8192 .f32 := Memref.whole main_arg1
/-- The staged result. -/
abbrev mO : Memref sig .tc .vmem S4096x256 .f32 := Memref.whole cc0_stg1_0
/-- The four slots the column blocks of `w` are fetched into. -/
abbrev mB : Memref sig .tc .vmem S4x4096x256 .f32 := Memref.whole cc0_scratch0
/-- The product blocks to be sent, a slot per destination. -/
abbrev mS : Memref sig .tc .vmem S32x128x256 .bf16 := Memref.whole cc0_scratch1
/-- The product blocks received, a slot per source. -/
abbrev mR : Memref sig .tc .vmem S32x128x256 .bf16 := Memref.whole cc0_scratch2
/-- The largest magnitudes, a slot per device. -/
abbrev mA : Memref sig .tc .vmem S32x8x128 .f32 := Memref.whole cc0_scratch3

theorem slotB_inb (s : Fin 4) : ∀ a, (![s.val, 0, 0] : Fin 3 → Nat) a + S1x4096x256.size a ≤ S4x4096x256.size a := by
  revert s; decide
theorem semB_inb (s : Fin 4) : ∀ a, (![s.val] : Fin 1 → Nat) a + S1.size a ≤ S4.size a := by
  revert s; decide
theorem sem_inb (s : Fin 32) : ∀ a, (![s.val] : Fin 1 → Nat) a + S1.size a ≤ S32.size a := by
  revert s; decide

/-- A column block of `w` at a given offset. -/
abbrev wAt (o : Fin 2 → ℕ) (h : ∀ a, o a + S4096x256.size a ≤ S4096x8192.size a) :
    Memref sig .tc .hbm S4096x256 .f32 :=
  mW.slice (Rect.unit (s := S4096x8192) o S4096x256.size h) (fun _ => rfl)
/-- Slot `s` of the fetched column blocks. -/
abbrev bSlot (s : Fin 4) : Memref sig .tc .vmem S4096x256 .f32 :=
  (mB.slice (Rect.unit (s := S4x4096x256) ![s.val, 0, 0] S1x4096x256.size (slotB_inb s)) (fun _ => rfl)).squeeze
    S4096x256 squeezes_S1x4096x256_S4096x256
/-- A slot of product blocks at a given offset. -/
abbrev slotAt (m : Memref sig .tc .vmem S32x128x256 .bf16) (o : Fin 3 → ℕ)
    (h : ∀ a, o a + S1x128x256.size a ≤ S32x128x256.size a) : Memref sig .tc .vmem S128x256 .bf16 :=
  (m.slice (Rect.unit (s := S32x128x256) o S1x128x256.size h) (fun _ => rfl)).squeeze S128x256
    squeezes_S1x128x256_S128x256
/-- A slot of magnitudes at a given offset. -/
abbrev aSlotAt (o : Fin 3 → ℕ) (h : ∀ a, o a + S1x8x128.size a ≤ S32x8x128.size a) :
    Memref sig .tc .vmem S8x128 .f32 :=
  (mA.slice (Rect.unit (s := S32x8x128) o S1x8x128.size h) (fun _ => rfl)).squeeze S8x128
    squeezes_S1x8x128_S8x128

/-- The fetch semaphore of slot `s`. -/
abbrev semB (s : Fin 4) : DmaSem sig :=
  ((cc0_scratch4.slice (Rect.unit (s := S4) ![s.val] S1.size (semB_inb s))).squeeze S_ squeezes_S1_S_).sem
/-- A semaphore of a family of thirty-two, at a given offset. -/
abbrev semAt (A : DmaSems sig S32) (o : Fin 1 → ℕ) (h : ∀ a, o a + S1.size a ≤ S32.size a) : DmaSem sig :=
  ((A.slice (Rect.unit (s := S32) o S1.size h)).squeeze S_ squeezes_S1_S_).sem
/-- The entry barrier's semaphore. -/
abbrev semBar : Sem sig := (SemArray.scalar (sig.barrier 0 rfl) : Sems sig S_).sem

/-! ## The device a distance away -/

/-- The printed word computation of `(device + w) mod 32`. -/
def wrapW (d : Dev nD) (w : BitVec 32) : BitVec 32 :=
  let v2 : BitVec 32 := Scalar.remsi (Scalar.divsi (Dev.word d) 1#32) 32#32
  let v : BitVec 32 := Scalar.addi v2 w
  let n : BitVec 32 := Scalar.select (Scalar.cmpi .eq 32#32 0#32) 1#32 32#32
  let r : BitVec 32 := Scalar.remsi v n
  Scalar.select (Scalar.andi (Scalar.xori (Scalar.cmpi .slt r 0#32) (Scalar.cmpi .slt n 0#32)) (Scalar.cmpi .ne r 0#32))
    (Scalar.addi r n) r

/-- The device `w` after `d`, as the printed text computes it. -/
def peerN (d : Dev nD) (w : BitVec 32) : ℕ := (Scalar.addi 0#32 (Scalar.muli (wrapW d w) 1#32)).toNat

theorem peerN_eq (d : Dev nD) (r : Fin 31) : peerN d (BitVec.ofNat 32 (1 + r.val)) = (d.val + (1 + r.val)) % 32 := by
  revert d r; decide +kernel

theorem peerN_lt (d : Dev nD) (r : Fin 31) : peerN d (BitVec.ofNat 32 (1 + r.val)) < nD := by
  rw [peerN_eq]; exact Nat.mod_lt _ (by decide)

/-- The device at distance `1 + r` after `d`. -/
abbrev peer (d : Dev nD) (r : Fin 31) : Dev nD := ⟨peerN d (BitVec.ofNat 32 (1 + r.val)), peerN_lt d r⟩

/-- The distance `1 + r` among all thirty-two. -/
abbrev up (r : Fin 31) : Fin 32 := ⟨1 + r.val, by omega⟩

/-! ## The values -/

/-- One product block: the staged block of `x` times a fetched column block. -/
abbrev blkV (x : Vec F S128x4096 .f32) (w : Vec F S1x4096x256 .f32) : FVec F S128x256 .f32 := k0_pay5 x w
/-- The running largest magnitude after one more product block. -/
abbrev maxV (a : F .f32) (x : Vec F S128x4096 .f32) (w : Vec F S1x4096x256 .f32) : F .f32 := k0_pay6 a x w
/-- The product block as it is stored for sending. -/
abbrev sndV (x : Vec F S128x4096 .f32) (w : Vec F S1x4096x256 .f32) : FVec F S1x128x256 .bf16 := k0_pay7 x w
/-- The slot filled with the largest magnitude. -/
abbrev ampV (a : F .f32) : FVec F S1x8x128 .f32 :=
  shapeCast S1x8x128 (broadcast S1x8x128 a) shapeCasts_S1x8x128_S1x8x128
/-- The quantised and scaled block, from the scale and its inverse. -/
abbrev snapV (sc inv : F .f32) (v : Vec F S1x128x256 .bf16) : FVec F S128x256 .f32 := k0_pay121 sc inv v

/-! ## One step of each loop -/

/-- Signal the peer's entry barrier. -/
def sigStep (d : Dev nD) (r : Fin 31) (k : TcProg F) : TcProg F :=
  .op (.semSignal (peer d r, .tc) semBar (1#32 : BitVec 32).toInt) fun _ => k

/-- Start the fetch of the column block at distance `j` into its slot. -/
def fetchStep (d : Dev nD) (j : Fin 32) (k : TcProg F) : TcProg F :=
  .op (.enqueueDma (wAt (k0_off1 d (BitVec.ofNat 32 j.val)) (k0_off1_inb d j))
      (.here (bSlot ⟨j.val % 4, Nat.mod_lt _ (by decide)⟩)) (.dma (semB ⟨j.val % 4, Nat.mod_lt _ (by decide)⟩))
      (View.wordExact_bits rfl) ((View.wordExact_bits rfl).reshape _ _) ⟨Or.inl rfl, trivial⟩) fun _ => k

/-- Wait for the column block at distance `j`, and read it with the block of `x`. -/
def takeStep (d : Dev nD) (j : Fin 32) (k : Vec F S128x4096 .f32 → Vec F S1x4096x256 .f32 → TcProg F) : TcProg F :=
  .op (.waitDma2 (semB ⟨j.val % 4, Nat.mod_lt _ (by decide)⟩)
      (wAt (k0_off1 d (BitVec.ofNat 32 j.val)) (k0_off1_inb d j)) (bSlot ⟨j.val % 4, Nat.mod_lt _ (by decide)⟩)
      (View.wordExact_bits rfl) ((View.wordExact_bits rfl).reshape _ _)) fun _ =>
  .op (.load mX (Rect.unit (s := S128x4096) ![0, 0] S128x4096.size inb_S128x4096_S128x4096_0_0).toLoadRect
      (View.loadsAt_vmem h_S128x4096)) fun x =>
  .op (.load mB (Rect.unit (s := S4x4096x256) ![j.val % 4, 0, 0] S1x4096x256.size
      (slotB_inb ⟨j.val % 4, Nat.mod_lt _ (by decide)⟩)).toLoadRect (View.loadsAt_vmem h_S1x4096x256)) fun w =>
  k x w

/-- Start the fetch four blocks ahead, while there is one. -/
def aheadStep (d : Dev nD) (j : ℕ) (k : TcProg F) : TcProg F :=
  if h : j + 4 < 32 then fetchStep d ⟨j + 4, h⟩ k else k

/-- Store the product block of the peer at distance `1 + r` and send it. -/
def sendStep (d : Dev nD) (r : Fin 31) (v : FVec F S1x128x256 .bf16) (k : TcProg F) : TcProg F :=
  .op (.load mS (Rect.unit (s := S32x128x256) (k0_off3 d (BitVec.ofNat 32 (1 + r.val))) S1x128x256.size
      (k0_off3_inb d r)).toLoadRect (View.loadsAt_vmem h_S1x128x256)) fun _ =>
  .op (.store mS (Rect.unit (s := S32x128x256) (k0_off3 d (BitVec.ofNat 32 (1 + r.val))) S1x128x256.size (k0_off3_inb d r))
      v Finset.univ (View.stores_vmem h_S1x128x256
        ((Memref.isWhole_whole cc0_scratch1).storeExact_slice rfl _ (k0_off3_packedbf16 d r)) (fun _ => rfl)) (.inl rfl)) fun _ =>
  .op (.enqueueDma (slotAt mS (k0_off6 d (BitVec.ofNat 32 (1 + r.val))) (k0_off6_inb d r))
      (.remote (Dev.tc (peer d r)) (slotAt mR (k0_off5 d) (k0_off5_inb d))
        (.dma (semAt cc0_scratch5 ![(up r).val] (sem_inb (up r)))))
      (.dma (semAt cc0_scratch6 (k0_off4 d) (k0_off4_inb d)))
      (((Memref.isWhole_whole cc0_scratch1).wordExact_slice rfl _ (k0_off6_wordsbf16 d r)).reshape _ _)
      (((Memref.isWhole_whole cc0_scratch2).wordExact_slice rfl _ (k0_off5_wordsbf16 d)).reshape _ _)
      ⟨⟨rfl, Or.inl rfl⟩, trivial⟩) fun _ => k

/-- One step of the product loop. -/
def prodStep (d : Dev nD) (r : Fin 31) (a : F .f32) (k : F .f32 → TcProg F) : TcProg F :=
  takeStep d (up r) fun x w => aheadStep d (1 + r.val) (sendStep d r (sndV x w) (k (maxV a x w)))

/-- The first step of the product loop: the block this device keeps. -/
def ownStep (d : Dev nD) (k : F .f32 → TcProg F) : TcProg F :=
  takeStep d 0 fun x w => aheadStep d 0 <|
  .op (.load mR (Rect.unit (s := S32x128x256) (k0_off2 d) S1x128x256.size (k0_off2_inb d)).toLoadRect
      (View.loadsAt_vmem h_S1x128x256)) fun _ =>
  .op (.store mR (Rect.unit (s := S32x128x256) (k0_off2 d) S1x128x256.size (k0_off2_inb d))
      (sndV x w) Finset.univ (View.stores_vmem h_S1x128x256
        ((Memref.isWhole_whole cc0_scratch2).storeExact_slice rfl _ (k0_off2_packedbf16 d)) (fun _ => rfl)) (.inl rfl)) fun _ =>
  k (maxV (Scalar.ofBits .f32 0x00000000#32) x w)

/-- Write this device's largest magnitude into its slot. -/
def ampStep (d : Dev nD) (a : F .f32) (k : TcProg F) : TcProg F :=
  .op (.load mA (Rect.unit (s := S32x8x128) (k0_off7 d) S1x8x128.size (k0_off7_inb d)).toLoadRect
      (View.loadsAt_vmem h_S1x8x128)) fun _ =>
  .op (.store mA (Rect.unit (s := S32x8x128) (k0_off7 d) S1x8x128.size (k0_off7_inb d)) (ampV a) Finset.univ
      (View.stores_vmem_bits_univ h_S1x8x128 rfl) (.inl rfl)) fun _ => k

/-- Send this device's slot of magnitudes to the peer at distance `1 + r`. -/
def ampSendStep (d : Dev nD) (r : Fin 31) (k : TcProg F) : TcProg F :=
  .op (.enqueueDma (aSlotAt (k0_off8 d) (k0_off8_inb d))
      (.remote (Dev.tc (peer d r)) (aSlotAt (k0_off8 d) (k0_off8_inb d))
        (.dma (semAt cc0_scratch7 ![(up r).val] (sem_inb (up r)))))
      (.dma (semAt cc0_scratch8 (k0_off4 d) (k0_off4_inb d)))
      ((View.wordExact_bits rfl).reshape _ _) ((View.wordExact_bits rfl).reshape _ _)
      ⟨⟨rfl, Or.inl rfl⟩, trivial⟩) fun _ => k

/-- Wait for the magnitudes of the peer at distance `1 + r`. -/
def ampWaitStep (d : Dev nD) (r : Fin 31) (k : TcProg F) : TcProg F :=
  .op (.waitDma2 (semAt cc0_scratch8 (k0_off9 d (BitVec.ofNat 32 (1 + r.val))) (k0_off9_inb d r))
      (aSlotAt (k0_off10 d (BitVec.ofNat 32 (1 + r.val))) (k0_off10_inb d r))
      (aSlotAt (k0_off10 d (BitVec.ofNat 32 (1 + r.val))) (k0_off10_inb d r))
      ((View.wordExact_bits rfl).reshape _ _) ((View.wordExact_bits rfl).reshape _ _)) fun _ => k

/-- Read all the magnitudes and go on with the scale and its inverse. -/
def scaleStep (k : Vec F S32x8x128 .f32 → TcProg F) : TcProg F :=
  .op (.load mA (Rect.unit (s := S32x8x128) ![0, 0, 0] S32x8x128.size inb_S32x8x128_S32x8x128_0_0_0).toLoadRect
      (View.loadsAt_vmem h_S32x8x128)) k

/-- Quantise the block this device kept. -/
def ownOutStep (d : Dev nD) (sc inv : F .f32) (k : TcProg F) : TcProg F :=
  .op (.load mR (Rect.unit (s := S32x128x256) (k0_off2 d) S1x128x256.size (k0_off2_inb d)).toLoadRect
      (View.loadsAt_vmem h_S1x128x256)) fun v =>
  .op (.load mO (Rect.unit (s := S4096x256) (k0_off11 d) S128x256.size (k0_off11_inb d)).toLoadRect
      (View.loadsAt_vmem h_S128x256)) fun _ =>
  .op (.store mO (Rect.unit (s := S4096x256) (k0_off11 d) S128x256.size (k0_off11_inb d)) (snapV sc inv v) Finset.univ
      (View.stores_vmem_bits_univ h_S128x256 rfl) (.inl rfl)) fun _ => k

/-- Wait for the block of the peer at distance `1 + r` and quantise it. -/
def outStep (d : Dev nD) (sc inv : F .f32) (r : Fin 31) (k : TcProg F) : TcProg F :=
  .op (.waitDma2 (semAt cc0_scratch6 (k0_off9 d (BitVec.ofNat 32 (1 + r.val))) (k0_off9_inb d r))
      (slotAt mR (k0_off6 d (BitVec.ofNat 32 (1 + r.val))) (k0_off6_inb d r))
      (slotAt mR (k0_off6 d (BitVec.ofNat 32 (1 + r.val))) (k0_off6_inb d r))
      (((Memref.isWhole_whole cc0_scratch2).wordExact_slice rfl _ (k0_off6_wordsbf16 d r)).reshape _ _)
      (((Memref.isWhole_whole cc0_scratch2).wordExact_slice rfl _ (k0_off6_wordsbf16 d r)).reshape _ _)) fun _ =>
  .op (.load mR (Rect.unit (s := S32x128x256) (k0_off3 d (BitVec.ofNat 32 (1 + r.val))) S1x128x256.size
      (k0_off3_inb d r)).toLoadRect (View.loadsAt_vmem h_S1x128x256)) fun v =>
  .op (.load mO (Rect.unit (s := S4096x256) (k0_off12 d (BitVec.ofNat 32 (1 + r.val))) S128x256.size
      (k0_off12_inb d r)).toLoadRect (View.loadsAt_vmem h_S128x256)) fun _ =>
  .op (.store mO (Rect.unit (s := S4096x256) (k0_off12 d (BitVec.ofNat 32 (1 + r.val))) S128x256.size (k0_off12_inb d r))
      (snapV sc inv v) Finset.univ (View.stores_vmem_bits_univ h_S128x256 rfl) (.inl rfl)) fun _ => k

/-- Wait until the block sent to the peer at distance `1 + r` has left. -/
def sentStep (d : Dev nD) (r : Fin 31) (k : TcProg F) : TcProg F :=
  .op (.waitDma2 (semAt cc0_scratch5 ![(up r).val] (sem_inb (up r)))
      (slotAt mR (k0_off5 d) (k0_off5_inb d))
      (slotAt mS (k0_off6 d (BitVec.ofNat 32 (1 + r.val))) (k0_off6_inb d r))
      (((Memref.isWhole_whole cc0_scratch2).wordExact_slice rfl _ (k0_off5_wordsbf16 d)).reshape _ _)
      (((Memref.isWhole_whole cc0_scratch1).wordExact_slice rfl _ (k0_off6_wordsbf16 d r)).reshape _ _)) fun _ => k

/-- Wait until the magnitudes sent to the peer at distance `1 + r` have left. -/
def ampSentStep (d : Dev nD) (r : Fin 31) (k : TcProg F) : TcProg F :=
  .op (.waitDma2 (semAt cc0_scratch7 ![(up r).val] (sem_inb (up r)))
      (aSlotAt (k0_off8 d) (k0_off8_inb d)) (aSlotAt (k0_off8 d) (k0_off8_inb d))
      ((View.wordExact_bits rfl).reshape _ _) ((View.wordExact_bits rfl).reshape _ _)) fun _ => k

/-! ## The loops -/

/-- Run a step for each entry of a list. -/
def runL {ι : Type} (f : ι → TcProg F → TcProg F) : List ι → TcProg F → TcProg F
  | [], k => k
  | r :: l, k => f r (runL f l k)

/-- Run a step for each entry of a list, carrying a value. -/
def runC {ι σ : Type} (f : ι → σ → (σ → TcProg F) → TcProg F) : List ι → σ → (σ → TcProg F) → TcProg F
  | [], a, k => k a
  | r :: l, a, k => f r a fun a' => runC f l a' k

/-- The distances, nearest first. -/
abbrev near : List (Fin 31) :=
  [0, 1, 2, 3, 4, 5, 6, 7, 8, 9, 10, 11, 12, 13, 14, 15, 16, 17, 18, 19, 20, 21, 22, 23, 24, 25, 26, 27, 28, 29, 30]
/-- The distances, farthest first. -/
abbrev far : List (Fin 31) :=
  [30, 29, 28, 27, 26, 25, 24, 23, 22, 21, 20, 19, 18, 17, 16, 15, 14, 13, 12, 11, 10, 9, 8, 7, 6, 5, 4, 3, 2, 1, 0]

/-- After the entry barrier. -/
def bodyAfter (d : Dev nD) : TcProg F :=
  fetchStep d 0 <| fetchStep d 1 <| fetchStep d 2 <| fetchStep d 3 <|
  ownStep d fun a₀ => runC (prodStep d) near a₀ fun a =>
  ampStep d a <|
  runL (ampSendStep d) near <|
  runL (ampWaitStep d) far <|
  scaleStep fun v =>
  ownOutStep d (k0_pay110 v) (k0_pay111 v) <|
  runL (outStep d (k0_pay110 v) (k0_pay111 v)) far <|
  runL (sentStep d) near <|
  runL (ampSentStep d) near <|
  .ret ⟨⟩

/-- The whole body: read the device's number, pass the entry barrier, and go on. -/
def body : TcProg F :=
  .op .deviceId fun d =>
  runL (sigStep d) near <|
  .op (.semWait semBar (31#32 : BitVec 32).toInt) fun _ => bodyAfter d

/-- The printed body is `body`. -/
theorem body_eq : cc0_body (F := F) mX (Memref.isWhole_whole _) mW (Memref.isWhole_whole _) mO (Memref.isWhole_whole _)
    mB (Memref.isWhole_whole _) mS (Memref.isWhole_whole _) mR (Memref.isWhole_whole _) mA (Memref.isWhole_whole _)
    cc0_scratch4 cc0_scratch5 cc0_scratch6 cc0_scratch7 cc0_scratch8 = body := by
  sl_kernel_rfl

end Cert.KernelIdeal.Dist

end
-- ==== Proof.Views.lean ====
/- The places the body touches, in closed form: the device a distance away, the slots, the column
   blocks, the row blocks and the semaphores; which elements each covers. -/
module

public import proofs.«01_k».proof.Proof.Body

@[expose] public section

noncomputable section

namespace Cert.KernelIdeal.Dist

open Cert.KernelIdeal.Gen
open Idealize.ShloMosaic Idealize.ShloMosaic.TcCoe
open Idealize.SL Idealize.SL.Sem

variable {F : FTy → Type} [FloatOps F]

/-! ## Devices by distance -/

/-- The device at distance `j` after `c`. -/
def along (c : Dev nD) (j : Fin 32) : Dev nD := ⟨(c.val + j.val) % 32, Nat.mod_lt _ (by decide)⟩
/-- The device at distance `1 + r` after `c`. -/
abbrev pr (c : Dev nD) (r : Fin 31) : Dev nD := along c (up r)
/-- The device at distance `1 + r` before `c`. -/
def bk (c : Dev nD) (r : Fin 31) : Dev nD := ⟨(c.val + (31 - r.val)) % 32, Nat.mod_lt _ (by decide)⟩

theorem peer_eq (c : Dev nD) (r : Fin 31) : peer c r = pr c r := Fin.ext (peerN_eq c r)
theorem along_zero (c : Dev nD) : along c 0 = c := by revert c; decide
theorem pr_bk (c : Dev nD) (r : Fin 31) : pr (bk c r) r = c :=
  Fin.ext (by have : c.val < 32 := c.isLt; simp only [along, bk]; omega)
theorem bk_pr (c : Dev nD) (r : Fin 31) : bk (pr c r) r = c :=
  Fin.ext (by have : c.val < 32 := c.isLt; simp only [along, bk]; omega)
theorem pr_ne (c : Dev nD) (r : Fin 31) : pr c r ≠ c := fun h => by
  have := congrArg Fin.val h; have : c.val < 32 := c.isLt; simp only [along] at *; omega
theorem pr_inj (c : Dev nD) : Function.Injective (pr c) := fun r r' h => Fin.ext (by
  have := congrArg Fin.val h; have : c.val < 32 := c.isLt; simp only [along] at *; omega)
theorem along_inj (c : Dev nD) : Function.Injective (along c) := fun r r' h => Fin.ext (by
  have := congrArg Fin.val h; have : c.val < 32 := c.isLt; simp only [along] at *; omega)
/-- Every device but `c` is at one of the thirty-one distances after `c`. -/
theorem exists_pr {c p : Dev nD} (h : p ≠ c) : ∃ r, pr c r = p := by
  have hp : p.val < 32 := p.isLt; have hc : c.val < 32 := c.isLt
  have hne : p.val ≠ c.val := fun e => h (Fin.ext e)
  exact ⟨⟨(p.val + 31 - c.val) % 32, by omega⟩, Fin.ext (by simp only [along]; omega)⟩

/-! ## The printed offsets in closed form -/

theorem off1_eq (c : Dev nD) (j : Fin 32) : k0_off1 c (BitVec.ofNat 32 j.val) = ![0, 256 * (along c j).val] := by
  revert c j; decide +kernel
theorem off3_eq (c : Dev nD) (r : Fin 31) : k0_off3 c (BitVec.ofNat 32 (1 + r.val)) = ![(pr c r).val, 0, 0] := by
  revert c r; decide +kernel
theorem off6_eq (c : Dev nD) (r : Fin 31) : k0_off6 c (BitVec.ofNat 32 (1 + r.val)) = ![(pr c r).val, 0, 0] := by
  revert c r; decide +kernel
theorem off9_eq (c : Dev nD) (r : Fin 31) : k0_off9 c (BitVec.ofNat 32 (1 + r.val)) = ![(pr c r).val] := by
  revert c r; decide +kernel
theorem off10_eq (c : Dev nD) (r : Fin 31) : k0_off10 c (BitVec.ofNat 32 (1 + r.val)) = ![(pr c r).val, 0, 0] := by
  revert c r; decide +kernel
theorem off12_eq (c : Dev nD) (r : Fin 31) : k0_off12 c (BitVec.ofNat 32 (1 + r.val)) = ![128 * (pr c r).val, 0] := by
  revert c r; decide +kernel

theorem col_inb (p : Dev nD) : ∀ a, (![0, 256 * p.val] : Fin 2 → ℕ) a + S4096x256.size a ≤ S4096x8192.size a := by
  revert p; decide
theorem slot_inb (p : Dev nD) : ∀ a, (![p.val, 0, 0] : Fin 3 → ℕ) a + S1x128x256.size a ≤ S32x128x256.size a := by
  revert p; decide
theorem aslot_inb (p : Dev nD) : ∀ a, (![p.val, 0, 0] : Fin 3 → ℕ) a + S1x8x128.size a ≤ S32x8x128.size a := by
  revert p; decide
theorem row_inb (p : Dev nD) : ∀ a, (![128 * p.val, 0] : Fin 2 → ℕ) a + S128x256.size a ≤ S4096x256.size a := by
  revert p; decide

/-! ## The rectangles and views -/

/-- Column block `p` of `w`. -/
abbrev rW (p : Dev nD) : Rect S4096x8192 := Rect.unit ![0, 256 * p.val] S4096x256.size (col_inb p)
/-- Slot `s` of the fetched column blocks. -/
abbrev rB (s : Fin 4) : Rect S4x4096x256 := Rect.unit ![s.val, 0, 0] S1x4096x256.size (slotB_inb s)
/-- Slot `p` of the product blocks. -/
abbrev rP (p : Dev nD) : Rect S32x128x256 := Rect.unit ![p.val, 0, 0] S1x128x256.size (slot_inb p)
/-- Slot `p` of the magnitudes. -/
abbrev rA (p : Dev nD) : Rect S32x8x128 := Rect.unit ![p.val, 0, 0] S1x8x128.size (aslot_inb p)
/-- Row block `p` of the result. -/
abbrev rO (p : Dev nD) : Rect S4096x256 := Rect.unit ![128 * p.val, 0] S128x256.size (row_inb p)

abbrev vW (p : Dev nD) := wAt ![0, 256 * p.val] (col_inb p)
abbrev vS (p : Dev nD) := slotAt mS ![p.val, 0, 0] (slot_inb p)
abbrev vR (p : Dev nD) := slotAt mR ![p.val, 0, 0] (slot_inb p)
abbrev vA (p : Dev nD) := aSlotAt ![p.val, 0, 0] (aslot_inb p)

theorem set_vW (p : Dev nD) : (vW p).view.set = (rW p).set := by
  show ((View.whole main_arg1).slice (rW p)).set = _
  rw [View.set_slice]; exact Finset.map_refl
theorem set_bSlot (s : Fin 4) : (bSlot s).view.set = (rB s).set := by
  show (((View.whole cc0_scratch0).slice (rB s)).reshape _ _).set = _
  rw [View.set_reshape, View.set_slice]; exact Finset.map_refl
theorem set_vS (p : Dev nD) : (vS p).view.set = (rP p).set := by
  show (((View.whole cc0_scratch1).slice (rP p)).reshape _ _).set = _
  rw [View.set_reshape, View.set_slice]; exact Finset.map_refl
theorem set_vR (p : Dev nD) : (vR p).view.set = (rP p).set := by
  show (((View.whole cc0_scratch2).slice (rP p)).reshape _ _).set = _
  rw [View.set_reshape, View.set_slice]; exact Finset.map_refl
theorem set_vA (p : Dev nD) : (vA p).view.set = (rA p).set := by
  show (((View.whole cc0_scratch3).slice (rA p)).reshape _ _).set = _
  rw [View.set_reshape, View.set_slice]; exact Finset.map_refl

theorem access_B (s : Fin 4) : (mB.access (rB s)).set = (rB s).set := by
  show ((View.whole cc0_scratch0).slice (rB s)).set = _
  rw [View.set_slice]; exact Finset.map_refl
theorem access_S (p : Dev nD) : (mS.access (rP p)).set = (rP p).set := by
  show ((View.whole cc0_scratch1).slice (rP p)).set = _
  rw [View.set_slice]; exact Finset.map_refl
theorem access_R (p : Dev nD) : (mR.access (rP p)).set = (rP p).set := by
  show ((View.whole cc0_scratch2).slice (rP p)).set = _
  rw [View.set_slice]; exact Finset.map_refl
theorem access_A (p : Dev nD) : (mA.access (rA p)).set = (rA p).set := by
  show ((View.whole cc0_scratch3).slice (rA p)).set = _
  rw [View.set_slice]; exact Finset.map_refl
theorem access_O (p : Dev nD) : (mO.access (rO p)).set = (rO p).set := by
  show ((View.whole cc0_stg1_0).slice (rO p)).set = _
  rw [View.set_slice]; exact Finset.map_refl

/-! ## Disjoint and covering -/

theorem disj_W {p q : Dev nD} (h : p ≠ q) : Disjoint (rW p).set (rW q).set :=
  Rect.unit_disjoint 1 (by
    have : p.val ≠ q.val := fun e => h (Fin.ext e)
    show 256 * p.val + 256 ≤ 256 * q.val ∨ 256 * q.val + 256 ≤ 256 * p.val; omega)
theorem disj_B {p q : Fin 4} (h : p ≠ q) : Disjoint (rB p).set (rB q).set :=
  Rect.unit_disjoint 0 (by
    have : p.val ≠ q.val := fun e => h (Fin.ext e)
    show p.val + 1 ≤ q.val ∨ q.val + 1 ≤ p.val; omega)
theorem disj_P {p q : Dev nD} (h : p ≠ q) : Disjoint (rP p).set (rP q).set :=
  Rect.unit_disjoint 0 (by
    have : p.val ≠ q.val := fun e => h (Fin.ext e)
    show p.val + 1 ≤ q.val ∨ q.val + 1 ≤ p.val; omega)
theorem disj_A {p q : Dev nD} (h : p ≠ q) : Disjoint (rA p).set (rA q).set :=
  Rect.unit_disjoint 0 (by
    have : p.val ≠ q.val := fun e => h (Fin.ext e)
    show p.val + 1 ≤ q.val ∨ q.val + 1 ≤ p.val; omega)

theorem mem_O (p : Dev nD) (i : S4096x256.Idx) : i ∈ (rO p).set ↔ (i 0).val / 128 = p.val := by
  rw [Rect.mem_set_unit, Fin.forall_fin_two]
  have h1 : (i 1).val < 256 := (i 1).isLt
  show (128 * p.val ≤ (i 0).val ∧ (i 0).val < 128 * p.val + 128) ∧ (0 ≤ (i 1).val ∧ (i 1).val < 0 + 256) ↔ _
  omega

theorem cover_W : (Finset.univ : Finset (Dev nD)).biUnion (fun p => (rW p).set) = Finset.univ := by
  refine Finset.eq_univ_iff_forall.mpr fun i => Finset.mem_biUnion.mpr ?_
  have h0 : (i 0).val < 4096 := (i 0).isLt
  have h1 : (i 1).val < 8192 := (i 1).isLt
  refine ⟨⟨(i 1).val / 256, by show _ < 32; omega⟩, Finset.mem_univ _, Rect.mem_set_unit.mpr (Fin.forall_fin_two.mpr ⟨?_, ?_⟩)⟩
  · show 0 ≤ (i 0).val ∧ (i 0).val < 0 + 4096; omega
  · show 256 * ((i 1).val / 256) ≤ (i 1).val ∧ (i 1).val < 256 * ((i 1).val / 256) + 256; omega
theorem cover_B : (Finset.univ : Finset (Fin 4)).biUnion (fun p => (rB p).set) = Finset.univ := by
  refine Finset.eq_univ_iff_forall.mpr fun i => Finset.mem_biUnion.mpr ⟨i 0, Finset.mem_univ _, Rect.mem_set_unit.mpr ?_⟩
  have h1 : (i 1).val < 4096 := (i 1).isLt
  have h2 : (i 2).val < 256 := (i 2).isLt
  refine Fin.forall_fin_succ.mpr ⟨?_, Fin.forall_fin_two.mpr ⟨?_, ?_⟩⟩
  · show (i 0).val ≤ (i 0).val ∧ (i 0).val < (i 0).val + 1; omega
  · show 0 ≤ (i 1).val ∧ (i 1).val < 0 + 4096; omega
  · show 0 ≤ (i 2).val ∧ (i 2).val < 0 + 256; omega
theorem cover_P : (Finset.univ : Finset (Dev nD)).biUnion (fun p => (rP p).set) = Finset.univ := by
  refine Finset.eq_univ_iff_forall.mpr fun i => Finset.mem_biUnion.mpr ⟨i 0, Finset.mem_univ _, Rect.mem_set_unit.mpr ?_⟩
  have h1 : (i 1).val < 128 := (i 1).isLt
  have h2 : (i 2).val < 256 := (i 2).isLt
  refine Fin.forall_fin_succ.mpr ⟨?_, Fin.forall_fin_two.mpr ⟨?_, ?_⟩⟩
  · show (i 0).val ≤ (i 0).val ∧ (i 0).val < (i 0).val + 1; omega
  · show 0 ≤ (i 1).val ∧ (i 1).val < 0 + 128; omega
  · show 0 ≤ (i 2).val ∧ (i 2).val < 0 + 256; omega
theorem cover_A : (Finset.univ : Finset (Dev nD)).biUnion (fun p => (rA p).set) = Finset.univ := by
  refine Finset.eq_univ_iff_forall.mpr fun i => Finset.mem_biUnion.mpr ⟨i 0, Finset.mem_univ _, Rect.mem_set_unit.mpr ?_⟩
  have h1 : (i 1).val < 8 := (i 1).isLt
  have h2 : (i 2).val < 128 := (i 2).isLt
  refine Fin.forall_fin_succ.mpr ⟨?_, Fin.forall_fin_two.mpr ⟨?_, ?_⟩⟩
  · show (i 0).val ≤ (i 0).val ∧ (i 0).val < (i 0).val + 1; omega
  · show 0 ≤ (i 1).val ∧ (i 1).val < 0 + 8; omega
  · show 0 ≤ (i 2).val ∧ (i 2).val < 0 + 128; omega

/-! ## Semaphores by number -/

/-- The fetch semaphore of slot `s`, -/
abbrev qF (s : Fin 4) : DmaSem sig := ⟨2 + s.val, by show _ < 134; omega⟩
/-- the semaphore of the block sent at distance `j`, -/
abbrev qS (j : Fin 32) : DmaSem sig := ⟨6 + j.val, by show _ < 134; omega⟩
/-- the semaphore of the block received from `p`, -/
abbrev qR (p : Dev nD) : DmaSem sig := ⟨38 + p.val, by have : p.val < 32 := p.isLt; show _ < 134; omega⟩
/-- the semaphore of the magnitudes sent at distance `j`, -/
abbrev qX (j : Fin 32) : DmaSem sig := ⟨70 + j.val, by show _ < 134; omega⟩
/-- the semaphore of the magnitudes received from `p`. -/
abbrev qY (p : Dev nD) : DmaSem sig := ⟨102 + p.val, by have : p.val < 32 := p.isLt; show _ < 134; omega⟩

theorem semB_eq (s : Fin 4) : semB s = qF s := by revert s; decide
theorem semS_eq (j : Fin 32) : semAt cc0_scratch5 ![j.val] (sem_inb j) = qS j := by revert j; decide
theorem semR_eq (p : Dev nD) : semAt cc0_scratch6 ![p.val] (sem_inb p) = qR p := by revert p; decide
theorem semX_eq (j : Fin 32) : semAt cc0_scratch7 ![j.val] (sem_inb j) = qX j := by revert j; decide
theorem semY_eq (p : Dev nD) : semAt cc0_scratch8 ![p.val] (sem_inb p) = qY p := by revert p; decide

/-! ## Writing a view -/

omit [FloatOps F] in
/-- Writing what a view reads of `g` leaves `g` on the view's elements. -/
theorem write_eq_on {κ : Kind} {sp : Space} {s : Shape} {e : EltTy} (v : View sig κ sp s e)
    (f g : v.ty.Contents (Elt F)) (w : s.Idx → Elt F e) (h : v.read (Elt F) g = w) :
    ∀ i ∈ v.set, v.write (Elt F) f w Finset.univ i = g i := by
  subst h
  intro i hi
  rw [View.write_read_eq_piecewise]
  exact Finset.piecewise_eq_of_mem _ _ _ hi

end Cert.KernelIdeal.Dist

end
-- ==== Proof.Vals.lean ====
/- What every buffer holds when the values matter, as functions of the memory at launch: the product
   blocks, each device's largest magnitude, the shared scale, and the result. -/
module

public import proofs.«01_k».proof.Proof.Views
public import Idealize.ShloMosaic.Lib.Pipeline.Value

@[expose] public section

noncomputable section

namespace Cert.KernelIdeal.Dist

open Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- Device `c`'s staged rows of `x`. -/
def X (c : Dev nD) : (cc0_stg0_0 : Ref sig .tc).ty.Contents (Elt F) :=
  (win0_0.blk (0 : Fin 1)).view.read (Elt F) (m ((c : Thread nD τ).loc main_arg0))
/-- Device `c`'s copy of `w`. -/
abbrev W (c : Dev nD) : (main_arg1 : Ref sig .tc).ty.Contents (Elt F) := m ((c : Thread nD τ).loc main_arg1)

/-- Column block `p` of device `c`'s `w`, as the body loads it from its slot. -/
def wb (c p : Dev nD) : Vec F S1x4096x256 .f32 := fun i => W m c ((rW p).emb (fun a => i a.succ))
/-- The four slots all holding column block `p` of device `c`'s `w`. -/
def bufB (c p : Dev nD) : (cc0_scratch0 : Ref sig .tc).ty.Contents (Elt F) :=
  fun i => W m c ((rW p).emb (fun a => i a.succ))

/-- The product block of device `s`'s rows and column block `p`. -/
def BLK (s p : Dev nD) : FVec F S1x128x256 .bf16 := sndV (X m s) (wb m s p)
/-- Where an element of a slot lies in the one-slot block. -/
abbrev in1 (i : S32x128x256.Idx) : S1x128x256.Idx := Fin.cons (⟨0, Nat.one_pos⟩ : Fin 1) (fun a => i a.succ)
/-- What device `c` sends: slot `p` holds its block of the columns of `p`. -/
def SV (c : Dev nD) : (cc0_scratch1 : Ref sig .tc).ty.Contents (Elt F) := fun i => BLK m c (i 0) (in1 i)
/-- What device `c` receives: slot `s` holds the block of the rows of `s`. -/
def RV (c : Dev nD) : (cc0_scratch2 : Ref sig .tc).ty.Contents (Elt F) := fun i => BLK m (i 0) c (in1 i)

/-- One step of device `c`'s running largest magnitude. -/
abbrev stepA (c : Dev nD) (a : F .f32) (r : Fin 31) : F .f32 := maxV a (X m c) (wb m c (pr c r))
/-- The running largest magnitude after the block the device keeps. -/
def A0 (c : Dev nD) : F .f32 := maxV (Scalar.ofBits .f32 0x00000000#32) (X m c) (wb m c c)
/-- Device `c`'s largest magnitude. -/
def Amax (c : Dev nD) : F .f32 := near.foldl (stepA m c) (A0 m c)
/-- All the magnitudes: slot `s` filled with that of `s`. -/
def AV : (cc0_scratch3 : Ref sig .tc).ty.Contents (Elt F) := fun i => Amax m (i 0)
/-- The scale's inverse and the scale. -/
def sc0 : F .f32 := k0_pay110 (AV m)
def sc1 : F .f32 := k0_pay111 (AV m)
/-- Device `c`'s result: row block `s` is the quantised product block of the rows of `s`. -/
def OV (c : Dev nD) : (cc0_stg1_0 : Ref sig .tc).ty.Contents (Elt F) := fun i =>
  snapV (sc0 m) (sc1 m) (BLK m ⟨(i 0).val / 128, by have : (i 0).val < 4096 := (i 0).isLt; show _ < 32; omega⟩ c)
    (fun | 0 => (⟨(i 0).val % 128, Nat.mod_lt _ (by decide)⟩ : Fin 128) | 1 => (i 1 : Fin 256))

/-! ## What the views read of them -/

theorem read_B (c p : Dev nD) (s : Fin 4) : (mB.access (rB s)).read (Elt F) (bufB m c p) = wb m c p := by
  funext j
  show W m c ((rW p).emb (fun a => ((rB s).emb j) a.succ)) = W m c ((rW p).emb (fun a => j a.succ))
  congr 2
  funext a
  refine Fin.ext ?_
  fin_cases a
  · show 0 + 1 * (j 1).val = (j 1).val; omega
  · show 0 + 1 * (j 2).val = (j 2).val; omega

theorem read_S (c p : Dev nD) : (mS.access (rP p)).read (Elt F) (SV m c) = BLK m c p := by
  funext j
  have h0 : ((rP p).emb j) 0 = p := Fin.ext (by
    have : (j 0).val < 1 := (j 0).isLt
    show p.val + 1 * (j 0).val = p.val; omega)
  have h1 : in1 ((rP p).emb j) = j := by
    funext a
    refine Fin.ext ?_
    have : (j 0).val < 1 := (j 0).isLt
    fin_cases a
    · show 0 = (j 0).val; omega
    · show 0 + 1 * (j 1).val = (j 1).val; omega
    · show 0 + 1 * (j 2).val = (j 2).val; omega
  show BLK m c (((rP p).emb j) 0) (in1 ((rP p).emb j)) = BLK m c p j
  rw [h0, h1]

theorem read_R (c p : Dev nD) : (mR.access (rP p)).read (Elt F) (RV m c) = BLK m p c := by
  funext j
  have h0 : ((rP p).emb j) 0 = p := Fin.ext (by
    have : (j 0).val < 1 := (j 0).isLt
    show p.val + 1 * (j 0).val = p.val; omega)
  have h1 : in1 ((rP p).emb j) = j := by
    funext a
    refine Fin.ext ?_
    have : (j 0).val < 1 := (j 0).isLt
    fin_cases a
    · show 0 = (j 0).val; omega
    · show 0 + 1 * (j 1).val = (j 1).val; omega
    · show 0 + 1 * (j 2).val = (j 2).val; omega
  show BLK m (((rP p).emb j) 0) c (in1 ((rP p).emb j)) = BLK m p c j
  rw [h0, h1]

theorem read_A (p : Dev nD) : (mA.access (rA p)).read (Elt F) (AV m) = ampV (Amax m p) := by
  funext j
  have h0 : ((rA p).emb j) 0 = p := Fin.ext (by
    have : (j 0).val < 1 := (j 0).isLt
    show p.val + 1 * (j 0).val = p.val; omega)
  show Amax m (((rA p).emb j) 0) = _
  rw [h0]
  rfl

theorem read_O (c p : Dev nD) : (mO.access (rO p)).read (Elt F) (OV m c) = snapV (sc0 m) (sc1 m) (BLK m p c) := by
  funext j
  have hj : (j 0).val < 128 := (j 0).isLt
  have hp : p.val < 32 := p.isLt
  have e0 : (((rO p).emb j) 0).val = 128 * p.val + 1 * (j 0).val := rfl
  have e1 : (((rO p).emb j) 1).val = 0 + 1 * (j 1).val := rfl
  show snapV (sc0 m) (sc1 m) (BLK m ⟨(((rO p).emb j) 0).val / 128, _⟩ c) _ = _
  congr 1
  · congr 2
    rw [e0]; omega
  · funext a
    refine Fin.ext ?_
    fin_cases a
    · show (((rO p).emb j) 0).val % 128 = (j 0).val; rw [e0]; omega
    · show (((rO p).emb j) 1).val = (j 1).val; rw [e1]; omega

/-- A copy of column block `p` into slot `s`. -/
theorem copy_W (c p : Dev nD) (s : Fin 4) :
    (bSlot s).view.read (Elt F) (bufB m c p) = (vW p).view.read (Elt F) (W m c) := by
  show shapeCast S4096x256 ((mB.access (rB s)).read (Elt F) (bufB m c p)) shapeCasts_S1x4096x256_S4096x256 = _
  rw [read_B]
  funext j
  exact shapeCast_dropUnit_apply ![4096, 256] (wb m c p) _ j

/-- A copy of the block for `p` into `p`'s slot for `c`. -/
theorem copy_P (c p : Dev nD) : (vR c).view.read (Elt F) (RV m p) = (vS p).view.read (Elt F) (SV m c) := by
  show shapeCast S128x256 ((mR.access (rP c)).read (Elt F) (RV m p)) shapeCasts_S1x128x256_S128x256
    = shapeCast S128x256 ((mS.access (rP p)).read (Elt F) (SV m c)) shapeCasts_S1x128x256_S128x256
  rw [read_R, read_S]

end Cert.KernelIdeal.Dist

end
-- ==== Proof.Sched.lean ====
/- The protocol between the devices. Per semaphore: who pays it, how much, and what the payment hands over.

   * A device's entry-barrier semaphore gets one unit from every other device; the unit from `d` hands over
     `d`'s receive slot and magnitude slot for this device, so nothing is sent to a device before it has entered.
   * A fetch semaphore is paid, round after round, by the device's own copies of column blocks of `w`: the slot
     comes back holding the block, and the block of `w` comes back.
   * A send semaphore hands back the slot that was sent; a receive semaphore hands over the slot filled by its
     sender; the same for the magnitudes, whose one slot is read by all the sends at once, each at its own share.

   A wait is allowed below what the waiter still owes: fetches and sends at level 0, the barrier at 1, the two
   kinds of receive at 2. -/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers

@[expose] public section

noncomputable section

namespace Cert.KernelIdeal.Dist

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's resources; a duty is named by the device that pays it. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev gBar (c : Dev nD) : GSem nD τ sig := ((c : Thread nD τ), .reg semBar)
abbrev gF (c : Dev nD) (s : Fin 4) : GSem nD τ sig := ((c : Thread nD τ), .dma (qF s))
abbrev gS (c : Dev nD) (j : Fin 32) : GSem nD τ sig := ((c : Thread nD τ), .dma (qS j))
abbrev gR (c p : Dev nD) : GSem nD τ sig := ((c : Thread nD τ), .dma (qR p))
abbrev gX (c : Dev nD) (j : Fin 32) : GSem nD τ sig := ((c : Thread nD τ), .dma (qX j))
abbrev gY (c p : Dev nD) : GSem nD τ sig := ((c : Thread nD τ), .dma (qY p))

/-- What a semaphore is for. -/
inductive Role where
  | bar
  | fetch (s : Fin 4)
  | send (j : Fin 32)
  | recv (p : Fin 32)
  | asend (j : Fin 32)
  | arecv (p : Fin 32)
  | other
deriving DecidableEq

/-- A DMA semaphore's use by its number. -/
def roleD (n : ℕ) : Role :=
  if n < 2 then .other
  else if n < 6 then .fetch ⟨(n - 2) % 4, Nat.mod_lt _ (by decide)⟩
  else if n < 38 then .send ⟨(n - 6) % 32, Nat.mod_lt _ (by decide)⟩
  else if n < 70 then .recv ⟨(n - 38) % 32, Nat.mod_lt _ (by decide)⟩
  else if n < 102 then .asend ⟨(n - 70) % 32, Nat.mod_lt _ (by decide)⟩
  else .arecv ⟨(n - 102) % 32, Nat.mod_lt _ (by decide)⟩

def role : SemLoc sig → Role
  | .reg s => if s = semBar then .bar else .other
  | .dma q => roleD q.val

theorem role_bar : role (.reg semBar) = .bar := by
  show (if semBar = semBar then Role.bar else .other) = _; exact if_pos rfl
theorem role_F (s : Fin 4) : role (.dma (qF s)) = .fetch s := by
  show roleD (2 + s.val) = _; revert s; decide
theorem role_S (j : Fin 32) : role (.dma (qS j)) = .send j := by
  show roleD (6 + j.val) = _; revert j; decide
theorem role_R (p : Dev nD) : role (.dma (qR p)) = .recv p := by
  show roleD (38 + p.val) = _; revert p; decide
theorem role_X (j : Fin 32) : role (.dma (qX j)) = .asend j := by
  show roleD (70 + j.val) = _; revert j; decide
theorem role_Y (p : Dev nD) : role (.dma (qY p)) = .arecv p := by
  show roleD (102 + p.val) = _; revert p; decide

/-! ## What is handed over -/

def ptW (c p : Dev nD) : sProp 𝕄 := ((vW p).view.loc (c : Thread nD τ)) ↦[(vW p).view.set]{fullShare} (W m c)
def ptB (c : Dev nD) (s : Fin 4) (f : (cc0_scratch0 : Ref sig .tc).ty.Contents (Elt F)) : sProp 𝕄 :=
  ((bSlot s).view.loc (c : Thread nD τ)) ↦[(bSlot s).view.set]{fullShare} f
def ptS (c p : Dev nD) (f : (cc0_scratch1 : Ref sig .tc).ty.Contents (Elt F)) : sProp 𝕄 :=
  ((vS p).view.loc (c : Thread nD τ)) ↦[(vS p).view.set]{fullShare} f
def ptR (c p : Dev nD) (f : (cc0_scratch2 : Ref sig .tc).ty.Contents (Elt F)) : sProp 𝕄 :=
  ((vR p).view.loc (c : Thread nD τ)) ↦[(vR p).view.set]{fullShare} f
def ptA (q : PosShare TreeShare) (c p : Dev nD) (f : (cc0_scratch3 : Ref sig .tc).ty.Contents (Elt F)) : sProp 𝕄 :=
  ((vA p).view.loc (c : Thread nD τ)) ↦[(vA p).view.set]{q} f

/-- The column block in round `r` of fetch slot `s`. -/
abbrev blkAt (c : Dev nD) (s : Fin 4) (r : ℕ) : Dev nD := along c ⟨(4 * r + s.val) % 32, Nat.mod_lt _ (by decide)⟩

def barPay (c d : Dev nD) : sProp 𝕄 := iprop((∃ f, ptR d c f) ∗ ∃ f, ptA fullShare d c f)
def fetchPay (c : Dev nD) (s : Fin 4) (r : ℕ) : sProp 𝕄 := iprop(ptB c s (bufB m c (blkAt c s r)) ∗ ptW m c (blkAt c s r))
def sendPay (c : Dev nD) (j : Fin 32) : sProp 𝕄 := ptS c (along c j) (SV m c)
def recvPay (c p : Dev nD) : sProp 𝕄 := ptR c p (RV m c)
/-- The share of the magnitude slot read by the send at distance `j`. -/
abbrev shX (j : Fin 32) : PosShare TreeShare := Transfers.shareTokN fullShare (j.val - 1)
def asendPay (c : Dev nD) (j : Fin 32) : sProp 𝕄 := ptA (shX j) c c (AV m)
def arecvPay (c p : Dev nD) : sProp 𝕄 := ptA fullShare c p (AV m)

/-- The credit of one column block, -/
def NF : ℕ := (bSlot 0).view.dmaCredit
/-- of one product block, -/
def NP : ℕ := (vR 0).view.dmaCredit
/-- of one slot of magnitudes. -/
def NA : ℕ := (vA 0).view.dmaCredit
theorem NF_pos : 0 < NF := View.dmaCredit_pos _ (by decide +kernel)
theorem NP_pos : 0 < NP := View.dmaCredit_pos _ (by decide +kernel)
theorem NA_pos : 0 < NA := View.dmaCredit_pos _ (by decide +kernel)

/-! ## The schedule -/

def dutiesOf (c : Dev nD) (r : ℕ) : Role → Finset (Dev nD)
  | .bar => if r = 0 then Finset.univ.erase c else ∅
  | .fetch _ => if r < 8 then {c} else ∅
  | .send j => if r = 0 ∧ j ≠ 0 then {c} else ∅
  | .recv p => if r = 0 ∧ p ≠ c then {p} else ∅
  | .asend j => if r = 0 ∧ j ≠ 0 then {c} else ∅
  | .arecv p => if r = 0 ∧ p ≠ c then {p} else ∅
  | .other => ∅
def amountOfRole : Role → ℕ
  | .bar => 1
  | .fetch _ => NF
  | .send _ => NP
  | .recv _ => NP
  | .asend _ => NA
  | .arecv _ => NA
  | .other => 1
theorem amountOfRole_pos : ∀ x : Role, 0 < amountOfRole x
  | .bar => Nat.one_pos
  | .fetch _ => NF_pos
  | .send _ => NP_pos
  | .recv _ => NP_pos
  | .asend _ => NA_pos
  | .arecv _ => NA_pos
  | .other => Nat.one_pos
def payOf (c : Dev nD) (r : ℕ) (d : Dev nD) : Role → sProp 𝕄
  | .bar => barPay c d
  | .fetch s => fetchPay m c s r
  | .send j => sendPay m c j
  | .recv p => recvPay m c p
  | .asend j => asendPay m c j
  | .arecv p => arecvPay m c p
  | .other => iprop(emp)

def Rd : Rounds.Schedule (GSem nD τ sig) (Dev nD) 𝕄 where
  duties g r := if g.1.2 = .tc then dutiesOf g.1.1 r (role g.2) else ∅
  unitless _ := False
  amount g _ _ := amountOfRole (role g.2)
  payload g r d := payOf m g.1.1 r d (role g.2)
  amount_pos g _ _ _ := amountOfRole_pos (role g.2)

instance ptW_storable (c p : Dev nD) : BI.Storable (upEmb : UEmb _ 𝕄) (ptW m c p) := by unfold ptW; infer_instance
instance ptB_storable (c : Dev nD) (s : Fin 4) (f) : BI.Storable (upEmb : UEmb _ 𝕄) (ptB (F := F) c s f) := by unfold ptB; infer_instance
instance ptS_storable (c p : Dev nD) (f) : BI.Storable (upEmb : UEmb _ 𝕄) (ptS (F := F) c p f) := by unfold ptS; infer_instance
instance ptR_storable (c p : Dev nD) (f) : BI.Storable (upEmb : UEmb _ 𝕄) (ptR (F := F) c p f) := by unfold ptR; infer_instance
instance ptA_storable (q : PosShare TreeShare) (c p : Dev nD) (f) : BI.Storable (upEmb : UEmb _ 𝕄) (ptA (F := F) q c p f) := by unfold ptA; infer_instance

theorem payOf_storable (c : Dev nD) (r : ℕ) (d : Dev nD) : ∀ x : Role, BI.Storable (upEmb : UEmb _ 𝕄) (payOf (F := F) m c r d x)
  | .bar => by show BI.Storable upEmb (barPay c d); unfold barPay; infer_instance
  | .fetch s => by show BI.Storable upEmb (fetchPay m c s r); unfold fetchPay; infer_instance
  | .send j => by show BI.Storable upEmb (sendPay m c j); unfold sendPay; infer_instance
  | .recv p => by show BI.Storable upEmb (recvPay m c p); unfold recvPay; infer_instance
  | .asend j => by show BI.Storable upEmb (asendPay m c j); unfold asendPay; infer_instance
  | .arecv p => by show BI.Storable upEmb (arecvPay m c p); unfold arecvPay; infer_instance
  | .other => by show BI.Storable upEmb iprop(emp); infer_instance

instance Rd_payload_storable (g : GSem nD τ sig) (r : ℕ) (d : Dev nD) :
    BI.Storable (upEmb : UEmb _ 𝕄) ((Rd (F := F) m).payload g r d) := payOf_storable m g.1.1 r d (role g.2)

section Tables
variable (c p : Dev nD) (d : Dev nD) (r : ℕ)

theorem duties_at (sm : SemLoc sig) : (Rd (F := F) m).duties ((c : Thread nD τ), sm) r = dutiesOf c r (role sm) := by
  dsimp only [Rd]; exact if_pos rfl
theorem amount_at (sm : SemLoc sig) : (Rd (F := F) m).amount ((c : Thread nD τ), sm) r d = amountOfRole (role sm) := rfl
theorem payload_at (sm : SemLoc sig) : (Rd (F := F) m).payload ((c : Thread nD τ), sm) r d = payOf m c r d (role sm) := rfl

theorem duties_bar : (Rd (F := F) m).duties (gBar c) 0 = Finset.univ.erase c := by
  rw [duties_at, role_bar]; rfl
theorem duties_F (s : Fin 4) (h : r < 8) : (Rd (F := F) m).duties (gF c s) r = {c} := by
  rw [duties_at, role_F]; exact if_pos h
theorem duties_S (j : Fin 32) (h : j ≠ 0) : (Rd (F := F) m).duties (gS c j) 0 = {c} := by
  rw [duties_at, role_S]; exact if_pos ⟨rfl, h⟩
theorem duties_R (h : p ≠ c) : (Rd (F := F) m).duties (gR c p) 0 = {p} := by
  rw [duties_at, role_R]; exact if_pos ⟨rfl, h⟩
theorem duties_X (j : Fin 32) (h : j ≠ 0) : (Rd (F := F) m).duties (gX c j) 0 = {c} := by
  rw [duties_at, role_X]; exact if_pos ⟨rfl, h⟩
theorem duties_Y (h : p ≠ c) : (Rd (F := F) m).duties (gY c p) 0 = {p} := by
  rw [duties_at, role_Y]; exact if_pos ⟨rfl, h⟩

/-- The round a semaphore's duties end before. -/
theorem later_bar : ∀ r, 1 ≤ r → (Rd (F := F) m).duties (gBar c) r = ∅ := fun r hr => by
  rw [duties_at, role_bar]; exact if_neg (by omega)
theorem later_F (s : Fin 4) : ∀ r, 8 ≤ r → (Rd (F := F) m).duties (gF c s) r = ∅ := fun r hr => by
  rw [duties_at, role_F]; exact if_neg (by omega)
theorem later_S (j : Fin 32) : ∀ r, 1 ≤ r → (Rd (F := F) m).duties (gS c j) r = ∅ := fun r hr => by
  rw [duties_at, role_S]; exact if_neg (by omega)
theorem later_R : ∀ r, 1 ≤ r → (Rd (F := F) m).duties (gR c p) r = ∅ := fun r hr => by
  rw [duties_at, role_R]; exact if_neg (by omega)
theorem later_X (j : Fin 32) : ∀ r, 1 ≤ r → (Rd (F := F) m).duties (gX c j) r = ∅ := fun r hr => by
  rw [duties_at, role_X]; exact if_neg (by omega)
theorem later_Y : ∀ r, 1 ≤ r → (Rd (F := F) m).duties (gY c p) r = ∅ := fun r hr => by
  rw [duties_at, role_Y]; exact if_neg (by omega)
/-- The semaphores of distance zero and of the device itself are never used. -/
theorem never_S : ∀ r, 0 ≤ r → (Rd (F := F) m).duties (gS c 0) r = ∅ := fun r _ => by
  rw [duties_at, role_S]; exact if_neg (fun h => h.2 rfl)
theorem never_R : ∀ r, 0 ≤ r → (Rd (F := F) m).duties (gR c c) r = ∅ := fun r _ => by
  rw [duties_at, role_R]; exact if_neg (fun h => h.2 rfl)
theorem never_X : ∀ r, 0 ≤ r → (Rd (F := F) m).duties (gX c 0) r = ∅ := fun r _ => by
  rw [duties_at, role_X]; exact if_neg (fun h => h.2 rfl)
theorem never_Y : ∀ r, 0 ≤ r → (Rd (F := F) m).duties (gY c c) r = ∅ := fun r _ => by
  rw [duties_at, role_Y]; exact if_neg (fun h => h.2 rfl)

theorem amount_bar : (Rd (F := F) m).amount (gBar c) r d = 1 := by
  rw [amount_at, role_bar]; rfl
theorem amount_F (s : Fin 4) : (Rd (F := F) m).amount (gF c s) r d = NF := by
  rw [amount_at, role_F]; rfl
theorem amount_S (j : Fin 32) : (Rd (F := F) m).amount (gS c j) r d = NP := by
  rw [amount_at, role_S]; rfl
theorem amount_R : (Rd (F := F) m).amount (gR c p) r d = NP := by
  rw [amount_at, role_R]; rfl
theorem amount_X (j : Fin 32) : (Rd (F := F) m).amount (gX c j) r d = NA := by
  rw [amount_at, role_X]; rfl
theorem amount_Y : (Rd (F := F) m).amount (gY c p) r d = NA := by
  rw [amount_at, role_Y]; rfl

theorem payload_bar : (Rd (F := F) m).payload (gBar c) r d = barPay c d := by
  rw [payload_at, role_bar]; rfl
theorem payload_F (s : Fin 4) : (Rd (F := F) m).payload (gF c s) r d = fetchPay m c s r := by
  rw [payload_at, role_F]; rfl
theorem payload_S (j : Fin 32) : (Rd (F := F) m).payload (gS c j) r d = sendPay m c j := by
  rw [payload_at, role_S]; rfl
theorem payload_R : (Rd (F := F) m).payload (gR c p) r d = recvPay m c p := by
  rw [payload_at, role_R]; rfl
theorem payload_X (j : Fin 32) : (Rd (F := F) m).payload (gX c j) r d = asendPay m c j := by
  rw [payload_at, role_X]; rfl
theorem payload_Y : (Rd (F := F) m).payload (gY c p) r d = arecvPay m c p := by
  rw [payload_at, role_Y]; rfl

theorem expect_bar : (Rd (F := F) m).expect (gBar c) 0 = 31 := by
  unfold Schedule.expect Schedule.amountOf
  rw [duties_bar, Finset.sum_congr rfl fun d _ => amount_bar m c d 0, Finset.sum_const,
    Finset.card_erase_of_mem (Finset.mem_univ _), Finset.card_univ, Fintype.card_fin, smul_eq_mul]; decide
theorem expect_F (s : Fin 4) (h : r < 8) : (Rd (F := F) m).expect (gF c s) r = NF := by
  unfold Schedule.expect Schedule.amountOf; rw [duties_F m c r s h, Finset.sum_singleton, amount_F]
theorem expect_S (j : Fin 32) (h : j ≠ 0) : (Rd (F := F) m).expect (gS c j) 0 = NP := by
  unfold Schedule.expect Schedule.amountOf; rw [duties_S m c j h, Finset.sum_singleton, amount_S]
theorem expect_R (h : p ≠ c) : (Rd (F := F) m).expect (gR c p) 0 = NP := by
  unfold Schedule.expect Schedule.amountOf; rw [duties_R m c p h, Finset.sum_singleton, amount_R]
theorem expect_X (j : Fin 32) (h : j ≠ 0) : (Rd (F := F) m).expect (gX c j) 0 = NA := by
  unfold Schedule.expect Schedule.amountOf; rw [duties_X m c j h, Finset.sum_singleton, amount_X]
theorem expect_Y (h : p ≠ c) : (Rd (F := F) m).expect (gY c p) 0 = NA := by
  unfold Schedule.expect Schedule.amountOf; rw [duties_Y m c p h, Finset.sum_singleton, amount_Y]

theorem rest_F (s : Fin 4) (h : r < 8) :
    bigSep ((Rd (F := F) m).duties (gF c s) r \ ∅) (fun d => (Rd (F := F) m).payload (gF c s) r d) = fetchPay m c s r := by
  rw [Finset.sdiff_empty, duties_F m c r s h, bigSep_singleton, payload_F]
theorem rest_S (j : Fin 32) (h : j ≠ 0) :
    bigSep ((Rd (F := F) m).duties (gS c j) 0 \ ∅) (fun d => (Rd (F := F) m).payload (gS c j) 0 d) = sendPay m c j := by
  rw [Finset.sdiff_empty, duties_S m c j h, bigSep_singleton, payload_S]
theorem rest_R (h : p ≠ c) :
    bigSep ((Rd (F := F) m).duties (gR c p) 0 \ ∅) (fun d => (Rd (F := F) m).payload (gR c p) 0 d) = recvPay m c p := by
  rw [Finset.sdiff_empty, duties_R m c p h, bigSep_singleton, payload_R]
theorem rest_X (j : Fin 32) (h : j ≠ 0) :
    bigSep ((Rd (F := F) m).duties (gX c j) 0 \ ∅) (fun d => (Rd (F := F) m).payload (gX c j) 0 d) = asendPay m c j := by
  rw [Finset.sdiff_empty, duties_X m c j h, bigSep_singleton, payload_X]
theorem rest_Y (h : p ≠ c) :
    bigSep ((Rd (F := F) m).duties (gY c p) 0 \ ∅) (fun d => (Rd (F := F) m).payload (gY c p) 0 d) = arecvPay m c p := by
  rw [Finset.sdiff_empty, duties_Y m c p h, bigSep_singleton, payload_Y]

end Tables

/-- All devices but `c`, one distance at a time. -/
theorem erase_eq (c : Dev nD) : Finset.univ.erase c = Finset.univ.map ⟨pr c, pr_inj c⟩ := by
  ext p
  simp only [Finset.mem_erase, Finset.mem_univ, and_true, Finset.mem_map, Function.Embedding.coeFn_mk, true_and]
  exact ⟨fun h => exists_pr h, fun ⟨r, h⟩ => h ▸ pr_ne c r⟩

theorem around (c : Dev nD) (Φ : Dev nD → sProp 𝕄) :
    bigSep Finset.univ Φ = iprop(Φ c ∗ bigSep Finset.univ fun r : Fin 31 => Φ (pr c r)) := by
  rw [bigSep_univ_at Φ c, erase_eq, bigSep_map]; rfl

theorem distances (Φ : Fin 32 → sProp 𝕄) :
    bigSep Finset.univ Φ = iprop(Φ 0 ∗ bigSep Finset.univ fun r : Fin 31 => Φ (up r)) := by
  rw [bigSep_univ_at Φ 0, show Finset.univ.erase (0 : Fin 32) = Finset.univ.map ⟨up, fun r r' h => Fin.ext (by
    have := congrArg Fin.val h; simp only at this; omega)⟩ from by decide, bigSep_map]; rfl

theorem rest_bar (c : Dev nD) :
    bigSep ((Rd (F := F) m).duties (gBar c) 0 \ ∅) (fun d => (Rd (F := F) m).payload (gBar c) 0 d)
      = bigSep Finset.univ fun r : Fin 31 => barPay (F := F) c (pr c r) := by
  rw [Finset.sdiff_empty, duties_bar, erase_eq, bigSep_map]
  exact bigSep_congr fun r _ => payload_bar m c (pr c r) 0

/-! ## What a device owes, and the levels -/

/-- The sum of tallies over a list of distances. -/
def owesL (f : Fin 31 → CellTallies nD τ sig Unit) (l : List (Fin 31)) : CellTallies nD τ sig Unit := (l.map f).sum

theorem owesL_cons (f : Fin 31 → CellTallies nD τ sig Unit) (r : Fin 31) (l : List (Fin 31)) : owesL f (r :: l) = owesL f l + f r := by
  unfold owesL; rw [List.map_cons, List.sum_cons, add_comm]
theorem owesL_nil (f : Fin 31 → CellTallies nD τ sig Unit) : owesL f [] = 0 := rfl
theorem owesL_near (f : Fin 31 → CellTallies nD τ sig Unit) : owesL f near = ∑ r, f r := by
  rw [Fin.sum_univ_def]; exact congrArg (fun l => (List.map f l).sum) (by decide)

abbrev oBar (c : Dev nD) (r : Fin 31) : CellTallies nD τ sig Unit := tallyAt (gBar (pr c r)) () 1
abbrev oR (c : Dev nD) (r : Fin 31) : CellTallies nD τ sig Unit := tallyAt (gR (pr c r) c) () NP
abbrev oY (c : Dev nD) (r : Fin 31) : CellTallies nD τ sig Unit := tallyAt (gY (pr c r) c) () NA

/-- What device `c` owes while the sends at the distances `l` and all the magnitudes are ahead. -/
def O₂ (c : Dev nD) (l : List (Fin 31)) : CellTallies nD τ sig Unit := owesL (oY c) near + owesL (oR c) l
/-- What it owes while the signals at the distances `l` are ahead as well. -/
def O₁ (c : Dev nD) (l : List (Fin 31)) : CellTallies nD τ sig Unit := O₂ c near + owesL (oBar c) l
/-- What device `c` owes at launch. -/
def O₀ (c : Dev nD) : CellTallies nD τ sig Unit := O₁ c near

def L (g : GSem nD τ sig) : Finset Unit := if g.1.2 = .tc then {()} else ∅
def lvOf : Role → ℕ
  | .bar => 1
  | .recv _ => 2
  | .arecv _ => 2
  | _ => 0
def lv (g : GSem nD τ sig) (_ : Unit) : ℕ := lvOf (role g.2)

theorem L_of_ne (g : GSem nD τ sig) (h : g.1.2 ≠ .tc) : L g = ∅ := if_neg h
theorem mem_L (c : Dev nD) (sm : SemLoc sig) : () ∈ L ((c : Thread nD τ), sm) := by
  rw [L, if_pos rfl]; exact Finset.mem_singleton_self _

theorem owesL_pos {f : Fin 31 → GSem nD τ sig} {n : ℕ} {l : List (Fin 31)} {g : GSem nD τ sig} {u : Unit}
    (h : 0 < owesL (fun r => tallyAt (f r) () n) l g u) : ∃ r, g = f r := by
  induction l with
  | nil => exact absurd h (by rw [owesL_nil]; exact Nat.lt_irrefl 0)
  | cons r l ih =>
    rw [owesL_cons, Pi.add_apply, Finsupp.add_apply, tallyAt_apply] at h
    by_cases e : g = f r ∧ u = ()
    · exact ⟨r, e.1⟩
    · rw [if_neg e, Nat.add_zero] at h; exact ih h

theorem O₂_pos {c : Dev nD} {l : List (Fin 31)} {g : GSem nD τ sig} {u : Unit} (h : 0 < O₂ c l g u) :
    g.1.2 = .tc ∧ lv g () = 2 := by
  unfold O₂ at h
  rw [Pi.add_apply, Finsupp.add_apply] at h
  rcases Nat.eq_zero_or_pos (owesL (oY c) near g u) with h0 | h0
  · rw [h0, Nat.zero_add] at h
    obtain ⟨r, rfl⟩ := owesL_pos h
    exact ⟨rfl, by show lvOf (role _) = 2; rw [role_R]; rfl⟩
  · obtain ⟨r, rfl⟩ := owesL_pos h0
    exact ⟨rfl, by show lvOf (role _) = 2; rw [role_Y]; rfl⟩

theorem O₁_pos {c : Dev nD} {l : List (Fin 31)} {g : GSem nD τ sig} {u : Unit} (h : 0 < O₁ c l g u) :
    g.1.2 = .tc ∧ 1 ≤ lv g () := by
  unfold O₁ at h
  rw [Pi.add_apply, Finsupp.add_apply] at h
  rcases Nat.eq_zero_or_pos (O₂ c near g u) with h0 | h0
  · rw [h0, Nat.zero_add] at h
    obtain ⟨r, rfl⟩ := owesL_pos h
    exact ⟨rfl, by show 1 ≤ lvOf (role _); rw [role_bar]; exact Nat.le_refl 1⟩
  · exact ⟨(O₂_pos h0).1, by rw [(O₂_pos h0).2]; decide⟩

theorem mayWait_of {c : Dev nD} {sm : SemLoc sig} {O : CellTallies nD τ sig Unit}
    (h : ∀ g u, 0 < O g u → g.1.2 = .tc ∧ lvOf (role sm) < lv g ()) :
    (levAts L lv : sProp 𝕄) ⊢ MayWait (c : Thread nD τ) sm () O :=
  Pipeline.mayWait_of_levAts (mem_L c sm) fun g u hg => ⟨by
    rw [L, if_pos (h g u hg).1]; exact Finset.mem_singleton_self _, (h g u hg).2⟩

/-- A fetch may be waited for while sends are owed. -/
theorem mayWait_F (c : Dev nD) (s : Fin 4) (l : List (Fin 31)) :
    (levAts L lv : sProp 𝕄) ⊢ MayWait (c : Thread nD τ) (.dma (qF s)) () (O₂ c l) :=
  mayWait_of fun g u hg => ⟨(O₂_pos hg).1, by rw [(O₂_pos hg).2, role_F]; exact Nat.zero_lt_two⟩
/-- The entry barrier may be waited for while sends are owed. -/
theorem mayWait_bar (c : Dev nD) (l : List (Fin 31)) :
    (levAts L lv : sProp 𝕄) ⊢ MayWait (c : Thread nD τ) (.reg semBar) () (O₂ c l) :=
  mayWait_of fun g u hg => ⟨(O₂_pos hg).1, by rw [(O₂_pos hg).2, role_bar]; decide⟩
/-- A staging semaphore may be waited for while everything is owed. -/
theorem mayWait_stage (c : Dev nD) (q : DmaSem sig) (hq : role (.dma q) = .other) (l : List (Fin 31)) :
    (levAts L lv : sProp 𝕄) ⊢ MayWait (c : Thread nD τ) (.dma q) () (O₁ c l) :=
  mayWait_of fun g u hg => ⟨(O₁_pos hg).1, by rw [hq]; exact (O₁_pos hg).2⟩

end Cert.KernelIdeal.Dist

end
-- ==== Proof.Steps.lean ====
/- One step of each loop: what it takes and what it leaves. -/
module

public import proofs.«01_k».proof.Proof.Sched

@[expose] public section

noncomputable section

namespace Cert.KernelIdeal.Dist

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells by name, and what is known of all of them -/

/-- A device's own scoped semaphores: fetch, send, receive, and those of the magnitudes. -/
abbrev Own : Type := Fin 4 ⊕ (Fin 32 ⊕ (Fin 32 ⊕ (Fin 32 ⊕ Fin 32)))
/-- All its semaphores of the protocol: the entry barrier besides. -/
abbrev Sm : Type := Unit ⊕ Own

instance : DecidableEq Sm := instDecidableEqSum

def osem : Own → SemLoc sig
  | .inl s => .dma (qF s)
  | .inr (.inl j) => .dma (qS j)
  | .inr (.inr (.inl p)) => .dma (qR p)
  | .inr (.inr (.inr (.inl j))) => .dma (qX j)
  | .inr (.inr (.inr (.inr p))) => .dma (qY p)
def ksem : Sm → SemLoc sig
  | .inl _ => .reg semBar
  | .inr k => osem k
def cellAt (i : Dev nD × Sm) : GSem nD τ sig := ((i.1 : Thread nD τ), ksem i.2)

abbrev kB : Sm := .inl ()
abbrev kF (s : Fin 4) : Sm := .inr (.inl s)
abbrev kS (j : Fin 32) : Sm := .inr (.inr (.inl j))
abbrev kR (p : Fin 32) : Sm := .inr (.inr (.inr (.inl p)))
abbrev kX (j : Fin 32) : Sm := .inr (.inr (.inr (.inr (.inl j))))
abbrev kY (p : Fin 32) : Sm := .inr (.inr (.inr (.inr (.inr p))))

/-- Every cell has its invariant and has reached round 0. -/
def Recs (K : Dev nD × Sm → ℕ) : sProp 𝕄 :=
  iprop((bigSep Finset.univ fun i : Dev nD × Sm => cellInv ER (Rd (F := F) m) (K i) (cellAt i))
    ∗ bigSep Finset.univ fun i : Dev nD × Sm => reached ER (cellAt i) 0)

instance Recs_persistent (K : Dev nD × Sm → ℕ) : BI.Persistent (Recs m K) := by unfold Recs; infer_instance

theorem inv_at (K : Dev nD × Sm → ℕ) (c : Dev nD) (k : Sm) :
    Recs m K ⊢ (cellInv ER (Rd (F := F) m) (K (c, k)) ((c : Thread nD τ), ksem k) : sProp 𝕄) := by
  unfold Recs
  have h : (bigSep Finset.univ fun i : Dev nD × Sm => (cellInv ER (Rd (F := F) m) (K i) (cellAt i) : sProp 𝕄))
      ⊢ cellInv ER (Rd (F := F) m) (K (c, k)) (cellAt (c, k)) := bigSep_elim (Finset.mem_univ (c, k))
  iintro ⟨H, -⟩
  iapply h; iexact H
theorem reached_at (K : Dev nD × Sm → ℕ) (c : Dev nD) (k : Sm) :
    Recs m K ⊢ (reached ER (((c : Thread nD τ), ksem k) : GSem nD τ sig) 0 : sProp 𝕄) := by
  unfold Recs
  have h : (bigSep Finset.univ fun i : Dev nD × Sm => (reached ER (cellAt i) 0 : sProp 𝕄))
      ⊢ reached ER (cellAt (c, k)) 0 := bigSep_elim (Finset.mem_univ (c, k))
  iintro ⟨-, H⟩
  iapply h; iexact H

/-- What a device owes, whatever it has waited for. -/
def Ow (c : Dev nD) (O : CellTallies nD τ sig Unit) : sProp 𝕄 := iprop(∃ Ws, owes (c : Thread nD τ) O Ws)

abbrev 𝒱₀ : Variants := Variants.none
/-- Device `c`'s program `p` runs to `Q`. -/
abbrev WP (c : Dev nD) (p : TcProg F) (Q : PUnit.{1} → sProp 𝕄) : sProp 𝕄 :=
  wp frame (wpE (defs₀ (F := F)) 𝒱₀ (c : Thread nD τ) none) Set.univ p Q

theorem credit_F (s : Fin 4) : (bSlot s).view.dmaCredit = NF := rfl
theorem credit_R (p : Dev nD) : (vR p).view.dmaCredit = NP := rfl
theorem credit_S (p : Dev nD) : (vS p).view.dmaCredit = NP := rfl
theorem credit_A (p : Dev nD) : (vA p).view.dmaCredit = NA := rfl

/-! ## Loads and stores of the slots -/

section Access
variable (c : Dev nD)

theorem ptS_eq (p : Dev nD) (f) : ptS (F := F) c p f = (((mS.access (rP p)).loc (c : Thread nD τ)) ↦[(mS.access (rP p)).set]{fullShare} f) := by
  unfold ptS; rw [access_S, ← set_vS]
theorem ptR_eq (p : Dev nD) (f) : ptR (F := F) c p f = (((mR.access (rP p)).loc (c : Thread nD τ)) ↦[(mR.access (rP p)).set]{fullShare} f) := by
  unfold ptR; rw [access_R, ← set_vR]
theorem ptA_eq (q : PosShare TreeShare) (p : Dev nD) (f) :
    ptA (F := F) q c p f = (((mA.access (rA p)).loc (c : Thread nD τ)) ↦[(mA.access (rA p)).set]{q} f) := by
  unfold ptA; rw [access_A, ← set_vA]
theorem ptB_eq (s : Fin 4) (f) : ptB (F := F) c s f = (((mB.access (rB s)).loc (c : Thread nD τ)) ↦[(mB.access (rB s)).set]{fullShare} f) := by
  unfold ptB; rw [access_B, ← set_bSlot]

theorem load_S {Q : PUnit.{1} → sProp 𝕄} (p : Dev nD) {o : Fin 3 → ℕ} {h} (ho : o = ![p.val, 0, 0]) {hl} (f)
    {k : Vec F S1x128x256 .bf16 → TcProg F} :
    ptS c p f ⊢ iprop((ptS c p f -∗ WP c (k ((mS.access (rP p)).read (Elt F) f)) Q)
      -∗ WP c (.op (.load mS (Rect.unit (s := S32x128x256) o S1x128x256.size h).toLoadRect hl) k) Q) := by
  subst ho; rw [ptS_eq]
  exact wp_load_rect 𝒱₀ (c : Thread nD τ) none Set.univ (m := mS) (r := rP p) (Finset.Subset.refl _)
theorem load_R {Q : PUnit.{1} → sProp 𝕄} (p : Dev nD) {o : Fin 3 → ℕ} {h} (ho : o = ![p.val, 0, 0]) {hl} (f)
    {k : Vec F S1x128x256 .bf16 → TcProg F} :
    ptR c p f ⊢ iprop((ptR c p f -∗ WP c (k ((mR.access (rP p)).read (Elt F) f)) Q)
      -∗ WP c (.op (.load mR (Rect.unit (s := S32x128x256) o S1x128x256.size h).toLoadRect hl) k) Q) := by
  subst ho; rw [ptR_eq]
  exact wp_load_rect 𝒱₀ (c : Thread nD τ) none Set.univ (m := mR) (r := rP p) (Finset.Subset.refl _)
theorem load_A {Q : PUnit.{1} → sProp 𝕄} (p : Dev nD) {o : Fin 3 → ℕ} {h} (ho : o = ![p.val, 0, 0]) {hl} (q : PosShare TreeShare) (f)
    {k : Vec F S1x8x128 .f32 → TcProg F} :
    ptA q c p f ⊢ iprop((ptA q c p f -∗ WP c (k ((mA.access (rA p)).read (Elt F) f)) Q)
      -∗ WP c (.op (.load mA (Rect.unit (s := S32x8x128) o S1x8x128.size h).toLoadRect hl) k) Q) := by
  subst ho; rw [ptA_eq]
  exact wp_load_rect 𝒱₀ (c : Thread nD τ) none Set.univ (m := mA) (r := rA p) (Finset.Subset.refl _)
theorem load_B {Q : PUnit.{1} → sProp 𝕄} (s : Fin 4) {h} {hl} (f) {k : Vec F S1x4096x256 .f32 → TcProg F} :
    ptB c s f ⊢ iprop((ptB c s f -∗ WP c (k ((mB.access (rB s)).read (Elt F) f)) Q)
      -∗ WP c (.op (.load mB (Rect.unit (s := S4x4096x256) ![s.val, 0, 0] S1x4096x256.size h).toLoadRect hl) k) Q) := by
  rw [ptB_eq]
  exact wp_load_rect 𝒱₀ (c : Thread nD τ) none Set.univ (m := mB) (r := rB s) (Finset.Subset.refl _)

theorem store_S {Q : PUnit.{1} → sProp 𝕄} (p : Dev nD) {o : Fin 3 → ℕ} {h} (ho : o = ![p.val, 0, 0]) {w : FVec F S1x128x256 .bf16} {hx hm} (f g)
    (hw : (mS.access (rP p)).read (Elt F) g = w) {k : TcProg F} :
    ptS c p f ⊢ iprop((ptS c p g -∗ WP c k Q)
      -∗ WP c (.op (.store mS (Rect.unit (s := S32x128x256) o S1x128x256.size h) w Finset.univ hx hm) fun _ => k) Q) := by
  subst ho; rw [ptS_eq, ptS_eq, show ((mS.access (rP p)).loc (c : Thread nD τ) ↦[(mS.access (rP p)).set]{fullShare} g : sProp 𝕄)
    = ((mS.access (rP p)).loc (c : Thread nD τ) ↦[(mS.access (rP p)).set]{fullShare} ((mS.access (rP p)).write (Elt F) f w Finset.univ) : sProp 𝕄)
    from Eq.symm (pointsTo_congr (write_eq_on (mS.access (rP p)) f g w hw))]
  iintro H Hk
  iapply (wp_store 𝒱₀ (c : Thread nD τ) none Set.univ (m := mS) (r := rP p) (Mk := Finset.univ)
    (show (mS.access (rP p)).setOn Finset.univ ⊆ (mS.access (rP p)).set from Finset.Subset.refl _)) $$ H
  iexact Hk
theorem store_R {Q : PUnit.{1} → sProp 𝕄} (p : Dev nD) {o : Fin 3 → ℕ} {h} (ho : o = ![p.val, 0, 0]) {w : FVec F S1x128x256 .bf16} {hx hm} (f g)
    (hw : (mR.access (rP p)).read (Elt F) g = w) {k : TcProg F} :
    ptR c p f ⊢ iprop((ptR c p g -∗ WP c k Q)
      -∗ WP c (.op (.store mR (Rect.unit (s := S32x128x256) o S1x128x256.size h) w Finset.univ hx hm) fun _ => k) Q) := by
  subst ho; rw [ptR_eq, ptR_eq, show ((mR.access (rP p)).loc (c : Thread nD τ) ↦[(mR.access (rP p)).set]{fullShare} g : sProp 𝕄)
    = ((mR.access (rP p)).loc (c : Thread nD τ) ↦[(mR.access (rP p)).set]{fullShare} ((mR.access (rP p)).write (Elt F) f w Finset.univ) : sProp 𝕄)
    from Eq.symm (pointsTo_congr (write_eq_on (mR.access (rP p)) f g w hw))]
  iintro H Hk
  iapply (wp_store 𝒱₀ (c : Thread nD τ) none Set.univ (m := mR) (r := rP p) (Mk := Finset.univ)
    (show (mR.access (rP p)).setOn Finset.univ ⊆ (mR.access (rP p)).set from Finset.Subset.refl _)) $$ H
  iexact Hk
theorem store_A {Q : PUnit.{1} → sProp 𝕄} (p : Dev nD) {o : Fin 3 → ℕ} {h} (ho : o = ![p.val, 0, 0]) {w : FVec F S1x8x128 .f32} {hx hm} (f g)
    (hw : (mA.access (rA p)).read (Elt F) g = w) {k : TcProg F} :
    ptA fullShare c p f ⊢ iprop((ptA fullShare c p g -∗ WP c k Q)
      -∗ WP c (.op (.store mA (Rect.unit (s := S32x8x128) o S1x8x128.size h) w Finset.univ hx hm) fun _ => k) Q) := by
  subst ho; rw [ptA_eq, ptA_eq, show ((mA.access (rA p)).loc (c : Thread nD τ) ↦[(mA.access (rA p)).set]{fullShare} g : sProp 𝕄)
    = ((mA.access (rA p)).loc (c : Thread nD τ) ↦[(mA.access (rA p)).set]{fullShare} ((mA.access (rA p)).write (Elt F) f w Finset.univ) : sProp 𝕄)
    from Eq.symm (pointsTo_congr (write_eq_on (mA.access (rA p)) f g w hw))]
  iintro H Hk
  iapply (wp_store 𝒱₀ (c : Thread nD τ) none Set.univ (m := mA) (r := rA p) (Mk := Finset.univ)
    (show (mA.access (rA p)).setOn Finset.univ ⊆ (mA.access (rA p)).set from Finset.Subset.refl _)) $$ H
  iexact Hk
end Access

theorem up_ne (r : Fin 31) : up r ≠ 0 := fun h => by
  have := congrArg Fin.val h; simp only [Fin.val_zero] at this; omega

/-! ## The steps -/

section Steps
variable (K : Dev nD × Sm → ℕ) (c : Dev nD)

/-- The staged block of `x`. -/
def ptX : sProp 𝕄 := (((c : Thread nD τ).loc cc0_stg0_0) ↦{fullShare} (X m c))

theorem sig_step {Q : PUnit.{1} → sProp 𝕄} (r : Fin 31) (O : CellTallies nD τ sig Unit) (k : TcProg F) :
    iprop(Recs m K ∗ dutyTok ER (gBar (pr c r)) 0 c ∗ barPay (F := F) (pr c r) c ∗ Ow (F := F) c (O + oBar c r))
      ⊢ iprop((Ow c O -∗ WP c k Q) -∗ WP c (sigStep c r k) Q) := by
  unfold sigStep Ow
  rw [peer_eq]
  iintro ⟨#HR, Ht, Hp, ⟨%Ws, HO⟩⟩ Hk
  iapply (Rounds.wp_signal 𝒱₀ ER (Rd (F := F) m) (c : Thread nD τ) none (dst := (pr c r : Thread nD τ)) (κ := K (pr c r, kB))
    (d := c) (r := 0) (by rw [duties_bar]; exact Finset.mem_erase.mpr ⟨(pr_ne c r).symm, Finset.mem_univ _⟩)
    ((amount_bar m (pr c r) c 0).trans (by decide)) () O rfl) $$ [Ht Hp HO]
  · isplitr; · iapply (inv_at m K (pr c r) kB); iexact HR
    isplitl [HO]; · iexact HO
    isplitl [Ht]; · iexact Ht
    isplitl [Hp]; · rw [payload_bar]; iexact Hp
    iapply (reached_at m K (pr c r) kB); iexact HR
  iintro HO
  iapply Hk; iexists Ws; iexact HO

theorem bar_step {Q : PUnit.{1} → sProp 𝕄} (k : TcProg F) :
    iprop(Recs m K ∗ levAts L lv ∗ cred (tallyAt (gBar c) () 31) ∗ Ow (F := F) c (O₂ c near) ∗ atPos ER (gBar c) 0 ∅ 0)
      ⊢ iprop(((Ow c (O₂ c near) ∗ semVal (gBar c) 0 ∗ bigSep Finset.univ fun r : Fin 31 => barPay (F := F) c (pr c r)) -∗ WP c k Q)
        -∗ WP c (.op (.semWait semBar (31#32 : BitVec 32).toInt) fun _ => k) Q) := by
  unfold Ow
  iintro ⟨#HR, #Hlev, Hc, ⟨%Ws, HO⟩, Hat⟩ Hk
  iapply (Rounds.wp_wait_rest_token 𝒱₀ ER (Rd (F := F) m) (c : Thread nD τ) none (κ := K (c, kB))
      (wpE_semWait_eq 𝒱₀ (c : Thread nD τ) none Set.univ) (Set.mem_univ _) () (O := O₂ c near) (W := Ws) (R := 0) (m := 0) (T := ∅)
      (by rw [expect_bar]; decide)) $$ [Hc HO Hat]
  · isplitr; · iapply (inv_at m K c kB); iexact HR
    isplitl [Hc]; · iexact Hc
    isplitl [HO]; · iexact HO
    isplitr; · iapply (mayWait_bar c near); iexact Hlev
    iexact Hat
  iintro ⟨HO, Hat, -, Hpay⟩
  ihave Hp := (Entails.of_eq (rest_bar m c)) $$ Hpay
  imod (Rounds.cell_close ER (Rd (F := F) m) (Set.mem_univ (K (c, kB))) (fun h => h) (R := 0 + 1) (later_bar m c)) $$ [Hat] with Hz
  · isplitr; · iapply (inv_at m K c kB); iexact HR
    iexact Hat
  iapply Hk
  isplitl [HO]; · iexists _; iexact HO
  isplitl [Hz] <;> iassumption

/-- A wait for a copy's arrival on a semaphore used once, at which the semaphore's use ends. -/
theorem wait_close {Q : PUnit.{1} → sProp 𝕄} (k : TcProg F) {q' : DmaSem sig} (q : DmaSem sig) (hq : q' = q) (i : Own)
    (hi : osem i = .dma q) (N : ℕ) {sp sp' : Space} {s s' : Shape} {e e' : EltTy} {src : Memref sig .tc sp' s' e'} {dst : Memref sig .tc sp s e}
    {hsrc : src.view.WordExact} {hdst : dst.view.WordExact} (hN : dst.view.dmaCredit = N)
    (he : (Rd (F := F) m).expect ((c : Thread nD τ), .dma q) 0 = N)
    (hl : ∀ r, 1 ≤ r → (Rd (F := F) m).duties ((c : Thread nD τ), .dma q) r = ∅) {P : sProp 𝕄}
    (hP : bigSep ((Rd (F := F) m).duties ((c : Thread nD τ), .dma q) 0 \ ∅) (fun d => (Rd (F := F) m).payload ((c : Thread nD τ), .dma q) 0 d) = P) :
    iprop(Recs m K ∗ cred (tallyAt ((c : Thread nD τ), .dma q) () N) ∗ Ow (F := F) c 0 ∗ atPos ER ((c : Thread nD τ), .dma q) 0 ∅ 0)
      ⊢ iprop(((Ow c 0 ∗ semVal ((c : Thread nD τ), .dma q) 0 ∗ P) -∗ WP c k Q)
        -∗ WP c (.op (.waitDma2 q' src dst hsrc hdst) fun _ => k) Q) := by
  subst hq hN hP
  unfold Ow
  iintro ⟨#HR, Hc, ⟨%Ws, HO⟩, Hat⟩ Hk
  ihave #HI := ((inv_at m K c (.inr i)).trans (Entails.of_eq (by show cellInv ER _ _ ((c : Thread nD τ), osem i) = _; rw [hi]))) $$ HR
  iapply (Rounds.wp_wait_rest_token 𝒱₀ ER (Rd (F := F) m) (c : Thread nD τ) none (κ := K (c, .inr i))
      (wpE_waitDma2_eq 𝒱₀ (c : Thread nD τ) none Set.univ) (Set.mem_univ _) () (O := 0) (W := Ws) (R := 0) (m := 0) (T := ∅)
      (by rw [Nat.zero_add, he])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd (F := F) m) (Set.mem_univ (K (c, .inr i))) (fun h => h) (R := 0 + 1) hl) $$ [Hat] with Hz
  · isplitr; · iexact HI
    iexact Hat
  iapply Hk
  isplitl [HO]; · iexists _; iexact HO
  isplitl [Hz] <;> iassumption

/-! ### The fetches of `w` -/

/-- The slot of the column block at distance `j`. -/
abbrev sl (j : Fin 32) : Fin 4 := ⟨j.val % 4, Nat.mod_lt _ (by decide)⟩

/-- Before its fetch starts, -/
def before (j : Fin 32) : sProp 𝕄 := iprop(dutyTok ER (gF c (sl j)) (j.val / 4) c ∗ ptW m c (along c j))
/-- and while it is on its way. -/
def flight (j : Fin 32) : sProp 𝕄 := iprop(cred (tallyAt (gF c (sl j)) () NF) ∗ atPos ER (gF c (sl j)) (j.val / 4) ∅ 0)
/-- A slot and its semaphore when no fetch is left for them. -/
def idle (s : Fin 4) : sProp 𝕄 := iprop(semVal (gF c s) 0 ∗ ∃ f, ptB (F := F) c s f)
/-- The slot whose turn is the `n`-th: a fetch on its way, or none left. -/
def slotNow (n : ℕ) : sProp 𝕄 := if h : n < 32 then flight c ⟨n, h⟩ else idle c ⟨n % 4, Nat.mod_lt _ (by decide)⟩
/-- What the fetch four ahead of the `n`-th needs, if there is one. -/
def ahead (n : ℕ) : sProp 𝕄 := if h : n + 4 < 32 then before m c ⟨n + 4, h⟩ else iprop(emp)

theorem blkAt_sl (j : Fin 32) : blkAt c (sl j) (j.val / 4) = along c j := by
  unfold blkAt; congr 1; exact Fin.ext (by show (4 * (j.val / 4) + j.val % 4) % 32 = j.val; omega)

theorem fetch_core {Q : PUnit.{1} → sProp 𝕄} (k : TcProg F) (p : Dev nD) (s : Fin 4) (r : ℕ) (hr : r < 8) (hp : blkAt c s r = p)
    {o : Fin 2 → ℕ} {h} (ho : o = ![0, 256 * p.val]) {q : DmaSem sig} (hq : q = qF s) {hsrc hdst hsem} :
    iprop(Recs m K ∗ dutyTok ER (gF c s) r c ∗ reached ER (gF c s) r ∗ (∃ f, ptB (F := F) c s f) ∗ ptW m c p)
      ⊢ iprop((cred (tallyAt (gF c s) () NF) -∗ WP c k Q)
        -∗ WP c (.op (.enqueueDma (wAt o h) (.here (bSlot s)) (.dma q) hsrc hdst hsem) fun _ => k) Q) := by
  subst ho hq
  iintro ⟨#HR, Ht, Hr, ⟨%f, HB⟩, HW⟩ Hk
  unfold ptB ptW
  iapply (Rounds.wp_copy_pointsTo 𝒱₀ ER (Rd (F := F) m) (c : Thread nD τ) none (κ := K (c, kF s)) (src := vW p) (dst := bSlot s) (sem := .dma (qF s))
      (fs := W m c) (fd := f) (r := r) (d := c) (by rw [duties_F m c r s hr]; exact Finset.mem_singleton_self _) () NF
      (credit_F s) (amount_F m c c r s)
      (by
        rw [payload_F]; unfold fetchPay; rw [hp]; unfold ptB ptW
        exact sep_mono_left (Entails.of_eq (pointsTo_congr (write_eq_on (bSlot s).view f (bufB m c p) _ (copy_W m c p s)))))) $$ [Ht Hr HB HW]
  · isplitr; · iapply (inv_at m K c (kF s)); iexact HR
    isplitl [HW]; · iexact HW
    isplitl [HB]; · iexact HB
    isplitl [Ht] <;> iassumption
  iexact Hk

theorem fetch_step {Q : PUnit.{1} → sProp 𝕄} (k : TcProg F) (j : Fin 32) :
    iprop(Recs m K ∗ before m c j ∗ atPos ER (gF c (sl j)) (j.val / 4) ∅ 0 ∗ reached ER (gF c (sl j)) (j.val / 4)
        ∗ (∃ f, ptB (F := F) c (sl j) f))
      ⊢ iprop((flight c j -∗ WP c k Q) -∗ WP c (fetchStep c j k) Q) := by
  unfold fetchStep before flight
  iintro ⟨#HR, ⟨Ht, HW⟩, Hat, Hr, HB⟩ Hk
  iapply (fetch_core m K c k (along c j) (sl j) (j.val / 4) (by omega) (blkAt_sl c j) (off1_eq c j) (semB_eq (sl j))) $$ [Ht HW Hr HB]
  · isplitr; · iexact HR
    isplitl [Ht]; · iexact Ht
    isplitl [Hr]; · iexact Hr
    isplitl [HB] <;> iassumption
  iintro Hc
  iapply Hk
  isplitl [Hc] <;> iassumption

theorem take_core {Q : PUnit.{1} → sProp 𝕄} (k : TcProg F) (s : Fin 4) (r : ℕ) (hr : r < 8) {q : DmaSem sig} (hq : q = qF s)
    (O : CellTallies nD τ sig Unit) (hO : (levAts L lv : sProp 𝕄) ⊢ MayWait (c : Thread nD τ) (.dma (qF s)) () O)
    {o : Fin 2 → ℕ} {h} {hsrc hdst} :
    iprop(Recs m K ∗ levAts L lv ∗ cred (tallyAt (gF c s) () NF) ∗ Ow (F := F) c O ∗ atPos ER (gF c s) r ∅ 0)
      ⊢ iprop(((Ow c O ∗ atPos ER (gF c s) (r + 1) ∅ 0 ∗ reached ER (gF c s) (r + 1) ∗ fetchPay m c s r) -∗ WP c k Q)
        -∗ WP c (.op (.waitDma2 q (wAt o h) (bSlot s) hsrc hdst) fun _ => k) Q) := by
  subst hq
  unfold Ow
  iintro ⟨#HR, #Hlev, Hc, ⟨%Ws, HO⟩, Hat⟩ Hk
  iapply (Rounds.wp_wait_rest_token 𝒱₀ ER (Rd (F := F) m) (c : Thread nD τ) none (κ := K (c, kF s))
      (wpE_waitDma2_eq 𝒱₀ (c : Thread nD τ) none Set.univ) (Set.mem_univ _) () (O := O) (W := Ws) (R := r) (m := 0) (T := ∅)
      (by rw [Nat.zero_add, expect_F m c r s hr]; exact credit_F s)) $$ [Hc HO Hat]
  · isplitr; · iapply (inv_at m K c (kF s)); iexact HR
    isplitl [Hc]; · iexact Hc
    isplitl [HO]; · iexact HO
    isplitr; · iapply hO; iexact Hlev
    iexact Hat
  iintro ⟨HO, Hat, Hr, Hpay⟩
  ihave Hp := (Entails.of_eq (rest_F m c r s hr)) $$ Hpay
  iapply Hk
  isplitl [HO]; · iexists _; iexact HO
  isplitl [Hat]; · iexact Hat
  isplitl [Hr] <;> iassumption

theorem hz2 : (![0, 0] : Fin 2 → Nat) = fun _ => 0 := funext fun a => by fin_cases a <;> rfl
theorem hz3 : (![0, 0, 0] : Fin 3 → Nat) = fun _ => 0 := funext fun a => by fin_cases a <;> rfl

theorem take_step {Q : PUnit.{1} → sProp 𝕄} (j : Fin 32) (O : CellTallies nD τ sig Unit)
    (hO : (levAts L lv : sProp 𝕄) ⊢ MayWait (c : Thread nD τ) (.dma (qF (sl j))) () O)
    (k : Vec F S128x4096 .f32 → Vec F S1x4096x256 .f32 → TcProg F) :
    iprop(Recs m K ∗ levAts L lv ∗ flight (F := F) c j ∗ Ow (F := F) c O ∗ ptX m c)
      ⊢ iprop(((Ow c O ∗ ptX m c ∗ atPos ER (gF c (sl j)) (j.val / 4 + 1) ∅ 0 ∗ reached ER (gF c (sl j)) (j.val / 4 + 1)
            ∗ (∃ f, ptB (F := F) c (sl j) f) ∗ ptW m c (along c j)) -∗ WP c (k (X m c) (wb m c (along c j))) Q)
        -∗ WP c (takeStep c j k) Q) := by
  unfold takeStep flight
  iintro ⟨#HR, #Hlev, ⟨Hc, Hat⟩, HO, HX⟩ Hk
  iapply (take_core m K c _ (sl j) (j.val / 4) (by omega) (semB_eq (sl j)) O hO) $$ [Hc Hat HO]
  · isplitr; · iexact HR
    isplitr; · iexact Hlev
    isplitl [Hc]; · iexact Hc
    isplitl [HO] <;> iassumption
  unfold fetchPay ptX
  iintro ⟨HO, Hat, Hr, HB, HW⟩
  rw [blkAt_sl]
  iapply (wp_load 𝒱₀ (c : Thread nD τ) none Set.univ (m := mX) (Finset.subset_univ _)) $$ HX; iintro HX
  rw [show mX.view.readAt (Elt F) (Rect.unit (s := S128x4096) ![0, 0] S128x4096.size inb_S128x4096_S128x4096_0_0).toLoadRect (X m c) = X m c from
    Memref.readAt_unit_zero (Elt F) cc0_stg0_0 hz2 _ _]
  iapply (load_B c (sl j) (bufB m c (along c j))) $$ HB; iintro HB
  rw [read_B]
  iapply Hk
  isplitl [HO]; · iexact HO
  isplitl [HX]; · iexact HX
  isplitl [Hat]; · iexact Hat
  isplitl [Hr]; · iexact Hr
  isplitl [HB]; · iexists _; iexact HB
  iexact HW

theorem ahead_step {Q : PUnit.{1} → sProp 𝕄} (j : Fin 32) (k : TcProg F) :
    iprop(Recs m K ∗ ahead m c j.val ∗ atPos ER (gF c (sl j)) (j.val / 4 + 1) ∅ 0 ∗ reached ER (gF c (sl j)) (j.val / 4 + 1)
        ∗ (∃ f, ptB (F := F) c (sl j) f))
      ⊢ iprop((slotNow c (j.val + 4) -∗ WP c k Q) -∗ WP c (aheadStep c j.val k) Q) := by
  unfold aheadStep ahead slotNow
  by_cases h : j.val + 4 < 32
  · simp only [dif_pos h]
    have e : sl ⟨j.val + 4, h⟩ = sl j := Fin.ext (by show (j.val + 4) % 4 = j.val % 4; omega)
    have e2 : (⟨j.val + 4, h⟩ : Fin 32).val / 4 = j.val / 4 + 1 := by show (j.val + 4) / 4 = _; omega
    have t := fetch_step (Q := Q) m K c k ⟨j.val + 4, h⟩
    rw [e, e2] at t
    exact t
  · simp only [dif_neg h]
    have e : (⟨(j.val + 4) % 4, Nat.mod_lt _ (by decide)⟩ : Fin 4) = sl j := Fin.ext (by show (j.val + 4) % 4 = j.val % 4; omega)
    rw [e]
    unfold idle
    iintro ⟨#HR, -, Hat, -, HB⟩ Hk
    imod (Rounds.cell_close ER (Rd (F := F) m) (Set.mem_univ (K (c, kF (sl j)))) (fun h => h) (R := j.val / 4 + 1)
      (fun r hr => later_F m c (sl j) r (by omega))) $$ [Hat] with Hz
    · isplitr; · iapply (inv_at m K c (kF (sl j))); iexact HR
      iexact Hat
    iapply Hk
    isplitl [Hz] <;> iassumption

end Steps

end Cert.KernelIdeal.Dist

end
-- ==== Proof.Sends.lean ====
/- The steps that send and receive, and what the product and output loops carry. -/
module

public import proofs.«01_k».proof.Proof.Steps

@[expose] public section

noncomputable section

namespace Cert.KernelIdeal.Dist

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Sm → ℕ) (c : Dev nD)

/-! ## Semaphores at the printed offsets -/

theorem semR_at {o : Fin 1 → ℕ} {h} (p : Dev nD) (ho : o = ![p.val]) : semAt cc0_scratch6 o h = qR p := by subst ho; exact semR_eq p
theorem semY_at {o : Fin 1 → ℕ} {h} (p : Dev nD) (ho : o = ![p.val]) : semAt cc0_scratch8 o h = qY p := by subst ho; exact semY_eq p

theorem O₂_cons (r : Fin 31) (l : List (Fin 31)) : O₂ c (r :: l) = O₂ c l + oR c r := by
  unfold O₂; rw [owesL_cons (oR c) r l, add_assoc]
theorem O₂_nil : O₂ c [] = owesL (oY c) near := by unfold O₂; rw [owesL_nil, add_zero]

/-! ## The product blocks -/

theorem send_core {Q : PUnit.{1} → sProp 𝕄} (k : TcProg F) (r : Fin 31) (O : CellTallies nD τ sig Unit)
    {n : Dev nD} (hn : n = pr c r) {o : Fin 3 → ℕ} {h} (ho : o = ![(pr c r).val, 0, 0]) {o' : Fin 3 → ℕ} {h'} (ho' : o' = ![c.val, 0, 0])
    {q q' : DmaSem sig} (hq : q = qS (up r)) (hq' : q' = qR c) {hsc hsrc hdst hsem} :
    iprop(Recs m K ∗ ptS c (pr c r) (SV m c) ∗ (∃ f, ptR (F := F) (pr c r) c f) ∗ Ow (F := F) c (O + oR c r)
        ∗ dutyTok ER (gS c (up r)) 0 c ∗ dutyTok ER (gR (pr c r) c) 0 c)
      ⊢ iprop(((cred (tallyAt (gS c (up r)) () NP) ∗ Ow c O) -∗ WP c k Q)
        -∗ WP c (.op (.enqueueDma (slotAt mS o h) (.remote (Dev.tc n) (slotAt mR o' h') (.dma q) hsc) (.dma q') hsrc hdst hsem) fun _ => k) Q) := by
  subst hn ho ho' hq hq'
  unfold Ow ptS ptR
  iintro ⟨#HR, HS, ⟨%f, HD⟩, ⟨%Ws, HO⟩, Ht, Ht'⟩ Hk
  iapply (Rounds.wp_send_pointsTo 𝒱₀ ER (Rd (F := F) m) (c : Thread nD τ) none (κ₁ := K (c, kS (up r))) (κ₂ := K (pr c r, kR c))
      (src := vS (pr c r)) (dst := vR c) (sS := .dma (qS (up r))) (sem := .dma (qR c)) (c' := (pr c r : Thread nD τ))
      (r₁ := 0) (r₂ := 0) (d₁ := c) (d₂ := c) (fs := SV m c) (fd := f)
      (by rw [duties_S m c (up r) (up_ne r)]; exact Finset.mem_singleton_self _)
      (by rw [duties_R m (pr c r) c (pr_ne c r).symm]; exact Finset.mem_singleton_self _)
      () () NP (credit_R c) (amount_S m c c 0 (up r)) (amount_R m (pr c r) c c 0) O rfl (W := Ws)
      (by rw [payload_S]; unfold sendPay ptS; exact BI.Entails.refl _)
      (by
        rw [payload_R]; unfold recvPay ptR
        exact Entails.of_eq (pointsTo_congr (write_eq_on (vR c).view f (RV m (pr c r)) _ (copy_P m c (pr c r)))))) $$ [HS HD HO Ht Ht']
  · isplitr; · iapply (inv_at m K c (kS (up r))); iexact HR
    isplitr; · iapply (inv_at m K (pr c r) (kR c)); iexact HR
    isplitl [HS]; · iexact HS
    isplitl [HD]; · iexact HD
    isplitl [HO]; · iexact HO
    isplitl [Ht]; · iexact Ht
    isplitr; · iapply (reached_at m K c (kS (up r))); iexact HR
    isplitl [Ht']; · iexact Ht'
    iapply (reached_at m K (pr c r) (kR c)); iexact HR
  iintro ⟨Hc, HO⟩
  iapply Hk
  isplitl [Hc]; · iexact Hc
  iexists _; iexact HO

/-- What sending to the peer at distance `1 + r` needs. -/
def sendPre (r : Fin 31) : sProp 𝕄 :=
  iprop((∃ f, ptS (F := F) c (pr c r) f) ∗ (∃ f, ptR (F := F) (pr c r) c f)
    ∗ dutyTok ER (gS c (up r)) 0 c ∗ dutyTok ER (gR (pr c r) c) 0 c)

theorem send_step {Q : PUnit.{1} → sProp 𝕄} (k : TcProg F) (r : Fin 31) (O : CellTallies nD τ sig Unit) {v : FVec F S1x128x256 .bf16}
    (hv : BLK m c (pr c r) = v) :
    iprop(Recs m K ∗ sendPre (F := F) c r ∗ Ow (F := F) c (O + oR c r))
      ⊢ iprop(((cred (tallyAt (gS c (up r)) () NP) ∗ Ow c O) -∗ WP c k Q) -∗ WP c (sendStep c r v k) Q) := by
  unfold sendStep sendPre
  iintro ⟨#HR, ⟨⟨%f, HS⟩, HD, Ht, Ht'⟩, HO⟩ Hk
  iapply (load_S c (pr c r) (off3_eq c r) f) $$ HS; iintro HS
  iapply (store_S c (pr c r) (off3_eq c r) f (SV m c) ((read_S m c (pr c r)).trans hv)) $$ HS; iintro HS
  iapply (send_core m K c k r O (peer_eq c r) (off6_eq c r) (k0_off5_eq c) (semS_eq (up r)) (semR_at c (k0_off4_eq c))) $$ [HS HD Ht Ht' HO]
  · isplitr; · iexact HR
    isplitl [HS]; · iexact HS
    isplitl [HD]; · iexact HD
    isplitl [HO]; · iexact HO
    isplitl [Ht] <;> iassumption
  iexact Hk

theorem own_step {Q : PUnit.{1} → sProp 𝕄} (k : F .f32 → TcProg F) :
    iprop(Recs m K ∗ levAts L lv ∗ flight (F := F) c 0 ∗ ahead m c 0 ∗ Ow (F := F) c (O₂ c near) ∗ ptX m c ∗ (∃ f, ptR (F := F) c c f))
      ⊢ iprop(((slotNow c 4 ∗ Ow c (O₂ c near) ∗ ptX m c ∗ ptW m c c ∗ ptR c c (RV m c)) -∗ WP c (k (A0 m c)) Q)
        -∗ WP c (ownStep c k) Q) := by
  unfold ownStep
  iintro ⟨#HR, #Hlev, HF, HA, HO, HX, ⟨%f, HV⟩⟩ Hk
  iapply (take_step m K c 0 (O₂ c near) (mayWait_F c (sl 0) near)) $$ [HF HO HX]
  · isplitr; · iexact HR
    isplitr; · iexact Hlev
    isplitl [HF]; · iexact HF
    isplitl [HO] <;> iassumption
  rw [along_zero]
  iintro ⟨HO, HX, Hat, Hr, HB, HW⟩
  iapply (ahead_step m K c 0) $$ [HA Hat Hr HB]
  · isplitr; · iexact HR
    isplitl [HA]; · iexact HA
    isplitl [Hat]; · iexact Hat
    isplitl [Hr] <;> iassumption
  iintro HN
  iapply (load_R c c (k0_off2_eq c) f) $$ HV; iintro HV
  iapply (store_R c c (k0_off2_eq c) f (RV m c) (read_R m c c)) $$ HV; iintro HV
  iapply Hk
  isplitl [HN]; · iexact HN
  isplitl [HO]; · iexact HO
  isplitl [HX]; · iexact HX
  isplitl [HW] <;> iassumption

/-- What one step of the product loop uses up, -/
def prodA (r : Fin 31) : sProp 𝕄 := iprop(ahead m c (1 + r.val) ∗ sendPre (F := F) c r)
/-- and what it leaves. -/
def prodB (r : Fin 31) : sProp 𝕄 := iprop(ptW m c (pr c r) ∗ cred (tallyAt (gS c (up r)) () NP))

theorem prod_step {Q : PUnit.{1} → sProp 𝕄} (r : Fin 31) (l : List (Fin 31)) (a : F .f32) (k : F .f32 → TcProg F) :
    iprop(Recs m K ∗ levAts L lv ∗ prodA m c r ∗ slotNow (F := F) c (1 + r.val) ∗ Ow (F := F) c (O₂ c (r :: l)) ∗ ptX m c)
      ⊢ iprop(((prodB m c r ∗ slotNow c (5 + r.val) ∗ Ow c (O₂ c l) ∗ ptX m c) -∗ WP c (k (stepA m c a r)) Q)
        -∗ WP c (prodStep c r a k) Q) := by
  unfold prodStep prodA prodB
  rw [show slotNow (F := F) c (1 + r.val) = flight c (up r) from dif_pos (by omega)]
  iintro ⟨#HR, #Hlev, ⟨HA, HP⟩, HF, HO, HX⟩ Hk
  iapply (take_step m K c (up r) (O₂ c (r :: l)) (mayWait_F c (sl (up r)) (r :: l))) $$ [HF HO HX]
  · isplitr; · iexact HR
    isplitr; · iexact Hlev
    isplitl [HF]; · iexact HF
    isplitl [HO] <;> iassumption
  rw [O₂_cons]
  iintro ⟨HO, HX, Hat, Hr, HB, HW⟩
  iapply (ahead_step m K c (up r)) $$ [HA Hat Hr HB]
  · isplitr; · iexact HR
    isplitl [HA]; · iexact HA
    isplitl [Hat]; · iexact Hat
    isplitl [Hr] <;> iassumption
  rw [show (up r).val + 4 = 5 + r.val by show 1 + r.val + 4 = _; omega]
  iintro HN
  iapply (send_step m K c _ r (O₂ c l) rfl) $$ [HP HO]
  · isplitr; · iexact HR
    isplitl [HP] <;> iassumption
  iintro ⟨Hc, HO⟩
  iapply Hk
  isplitl [HW Hc]; · isplitl [HW] <;> iassumption
  isplitl [HN]; · iexact HN
  isplitl [HO] <;> iassumption

/-! ## The magnitudes -/

theorem amp_step {Q : PUnit.{1} → sProp 𝕄} (k : TcProg F) :
    iprop(∃ f, ptA (F := F) fullShare c c f) ⊢ iprop((ptA fullShare c c (AV m) -∗ WP c k Q) -∗ WP c (ampStep c (Amax m c) k) Q) := by
  unfold ampStep
  iintro ⟨%f, HA⟩ Hk
  iapply (load_A c c (k0_off7_eq c) fullShare f) $$ HA; iintro HA
  iapply (store_A c c (k0_off7_eq c) f (AV m) (read_A m c)) $$ HA; iintro HA
  iapply Hk; iexact HA

/-- What sending the magnitude to the peer at distance `1 + r` needs. -/
def ampPre (r : Fin 31) : sProp 𝕄 :=
  iprop(ptA (shX (up r)) c c (AV m) ∗ (∃ f, ptA (F := F) fullShare (pr c r) c f)
    ∗ dutyTok ER (gX c (up r)) 0 c ∗ dutyTok ER (gY (pr c r) c) 0 c)

theorem amp_send_core {Q : PUnit.{1} → sProp 𝕄} (k : TcProg F) (r : Fin 31) (O : CellTallies nD τ sig Unit)
    {n : Dev nD} (hn : n = pr c r) {o : Fin 3 → ℕ} {h} (ho : o = ![c.val, 0, 0])
    {q q' : DmaSem sig} (hq : q = qX (up r)) (hq' : q' = qY c) {hsc hsrc hdst hsem} :
    iprop(Recs m K ∗ ampPre m c r ∗ Ow (F := F) c (O + oY c r))
      ⊢ iprop(((cred (tallyAt (gX c (up r)) () NA) ∗ Ow c O) -∗ WP c k Q)
        -∗ WP c (.op (.enqueueDma (aSlotAt o h) (.remote (Dev.tc n) (aSlotAt o h) (.dma q) hsc) (.dma q') hsrc hdst hsem) fun _ => k) Q) := by
  subst hn ho hq hq'
  unfold Ow ampPre ptA
  iintro ⟨#HR, ⟨HS, ⟨%f, HD⟩, Ht, Ht'⟩, ⟨%Ws, HO⟩⟩ Hk
  iapply (Rounds.wp_send_pointsTo 𝒱₀ ER (Rd (F := F) m) (c : Thread nD τ) none (κ₁ := K (c, kX (up r))) (κ₂ := K (pr c r, kY c))
      (src := vA c) (dst := vA c) (sS := .dma (qX (up r))) (sem := .dma (qY c)) (c' := (pr c r : Thread nD τ))
      (r₁ := 0) (r₂ := 0) (d₁ := c) (d₂ := c) (fs := AV m) (fd := f)
      (by rw [duties_X m c (up r) (up_ne r)]; exact Finset.mem_singleton_self _)
      (by rw [duties_Y m (pr c r) c (pr_ne c r).symm]; exact Finset.mem_singleton_self _)
      () () NA (credit_A c) (amount_X m c c 0 (up r)) (amount_Y m (pr c r) c c 0) O rfl (W := Ws)
      (by rw [payload_X]; unfold asendPay ptA; exact BI.Entails.refl _)
      (by
        rw [payload_Y]; unfold arecvPay ptA
        exact Entails.of_eq (pointsTo_congr (write_eq_on (vA c).view f (AV m) _ rfl)))) $$ [HS HD HO Ht Ht']
  · isplitr; · iapply (inv_at m K c (kX (up r))); iexact HR
    isplitr; · iapply (inv_at m K (pr c r) (kY c)); iexact HR
    isplitl [HS]; · iexact HS
    isplitl [HD]; · iexact HD
    isplitl [HO]; · iexact HO
    isplitl [Ht]; · iexact Ht
    isplitr; · iapply (reached_at m K c (kX (up r))); iexact HR
    isplitl [Ht']; · iexact Ht'
    iapply (reached_at m K (pr c r) (kY c)); iexact HR
  iintro ⟨Hc, HO⟩
  iapply Hk
  isplitl [Hc]; · iexact Hc
  iexists _; iexact HO

theorem amp_send_step {Q : PUnit.{1} → sProp 𝕄} (k : TcProg F) (r : Fin 31) (O : CellTallies nD τ sig Unit) :
    iprop(Recs m K ∗ ampPre m c r ∗ Ow (F := F) c (O + oY c r))
      ⊢ iprop(((cred (tallyAt (gX c (up r)) () NA) ∗ Ow c O) -∗ WP c k Q) -∗ WP c (ampSendStep c r k) Q) := by
  unfold ampSendStep
  exact amp_send_core m K c k r O (peer_eq c r) (k0_off8_eq c) (semX_eq (up r)) (semY_at c (k0_off4_eq c))

theorem amp_wait_step {Q : PUnit.{1} → sProp 𝕄} (k : TcProg F) (r : Fin 31) :
    iprop(Recs m K ∗ cred (tallyAt (gY c (pr c r)) () NA) ∗ Ow (F := F) c 0 ∗ atPos ER (gY c (pr c r)) 0 ∅ 0)
      ⊢ iprop(((Ow c 0 ∗ semVal (gY c (pr c r)) 0 ∗ ptA fullShare c (pr c r) (AV m)) -∗ WP c k Q) -∗ WP c (ampWaitStep c r k) Q) := by
  unfold ampWaitStep
  refine wait_close m K c k (qY (pr c r)) (semY_at (pr c r) (off9_eq c r)) (.inr (.inr (.inr (.inr (pr c r))))) rfl NA ?_
    (expect_Y m c (pr c r) (pr_ne c r)) (later_Y m c (pr c r)) (rest_Y m c (pr c r) (pr_ne c r))
  rfl

theorem sent_step {Q : PUnit.{1} → sProp 𝕄} (k : TcProg F) (r : Fin 31) :
    iprop(Recs m K ∗ cred (tallyAt (gS c (up r)) () NP) ∗ Ow (F := F) c 0 ∗ atPos ER (gS c (up r)) 0 ∅ 0)
      ⊢ iprop(((Ow c 0 ∗ semVal (gS c (up r)) 0 ∗ ptS c (pr c r) (SV m c)) -∗ WP c k Q) -∗ WP c (sentStep c r k) Q) := by
  unfold sentStep
  refine wait_close m K c k (qS (up r)) (semS_eq (up r)) (.inr (.inl (up r))) rfl NP ?_
    (expect_S m c (up r) (up_ne r)) (later_S m c (up r)) (rest_S m c (up r) (up_ne r))
  rfl

theorem amp_sent_step {Q : PUnit.{1} → sProp 𝕄} (k : TcProg F) (r : Fin 31) :
    iprop(Recs m K ∗ cred (tallyAt (gX c (up r)) () NA) ∗ Ow (F := F) c 0 ∗ atPos ER (gX c (up r)) 0 ∅ 0)
      ⊢ iprop(((Ow c 0 ∗ semVal (gX c (up r)) 0 ∗ ptA (shX (up r)) c c (AV m)) -∗ WP c k Q) -∗ WP c (ampSentStep c r k) Q) := by
  unfold ampSentStep
  refine wait_close m K c k (qX (up r)) (semX_eq (up r)) (.inr (.inr (.inr (.inl (up r))))) rfl NA ?_
    (expect_X m c (up r) (up_ne r)) (later_X m c (up r)) (rest_X m c (up r) (up_ne r))
  rfl

theorem scale_step {Q : PUnit.{1} → sProp 𝕄} (q : PosShare TreeShare) (k : Vec F S32x8x128 .f32 → TcProg F) :
    (((c : Thread nD τ).loc cc0_scratch3) ↦{q} (AV m) : sProp 𝕄)
      ⊢ iprop(((((c : Thread nD τ).loc cc0_scratch3) ↦{q} (AV m)) -∗ WP c (k (AV m)) Q) -∗ WP c (scaleStep k) Q) := by
  unfold scaleStep
  iintro H Hk
  iapply (wp_load 𝒱₀ (c : Thread nD τ) none Set.univ (m := mA) (Finset.subset_univ _)) $$ H; iintro H
  rw [show mA.view.readAt (Elt F) (Rect.unit (s := S32x8x128) ![0, 0, 0] S32x8x128.size inb_S32x8x128_S32x8x128_0_0_0).toLoadRect (AV m) = AV m from
    Memref.readAt_unit_zero (Elt F) cc0_scratch3 hz3 _ _]
  iapply Hk; iexact H

/-! ## The result -/

theorem mem_far : ∀ r : Fin 31, r ∈ far := by decide

/-- The staged result, right but for the row blocks of the peers at the distances in `l`. -/
def outSt (l : List (Fin 31)) : sProp 𝕄 :=
  iprop(∃ f, ⌜∀ i : S4096x256.Idx, (∀ r ∈ l, (i 0).val / 128 ≠ (pr c r).val) → f i = OV m c i⌝
    ∗ (((c : Thread nD τ).loc cc0_stg1_0) ↦{fullShare} f))

theorem store_O {Q : PUnit.{1} → sProp 𝕄} (p : Dev nD) {o : Fin 2 → ℕ} {h} (ho : o = ![128 * p.val, 0]) {hl hx hm}
    (f : (cc0_stg1_0 : Ref sig .tc).ty.Contents (Elt F)) {k : TcProg F} :
    (((c : Thread nD τ).loc cc0_stg1_0) ↦{fullShare} f : sProp 𝕄)
      ⊢ iprop((∀ g, ⌜∀ i : S4096x256.Idx, g i = if (i 0).val / 128 = p.val then OV m c i else f i⌝
            -∗ (((c : Thread nD τ).loc cc0_stg1_0) ↦{fullShare} g) -∗ WP c k Q)
        -∗ WP c (.op (.load mO (Rect.unit (s := S4096x256) o S128x256.size h).toLoadRect hl) fun _ =>
            .op (.store mO (Rect.unit (s := S4096x256) o S128x256.size h) (snapV (sc0 m) (sc1 m) (BLK m p c)) Finset.univ hx hm) fun _ => k) Q) := by
  subst ho
  iintro H Hk
  iapply (wp_load 𝒱₀ (c : Thread nD τ) none Set.univ (m := mO) (Finset.subset_univ _)) $$ H; iintro H
  iapply (wp_store 𝒱₀ (c : Thread nD τ) none Set.univ (m := mO) (r := rO p) (Mk := Finset.univ) (Finset.subset_univ _)) $$ H; iintro H
  iapply Hk $$ [] H
  ipureintro
  intro i
  by_cases e : (i 0).val / 128 = p.val
  · rw [if_pos e]
    exact write_eq_on (mO.access (rO p)) f (OV m c) _ (read_O m c p) i (by rw [access_O]; exact (mem_O p i).mpr e)
  · rw [if_neg e]
    rw [← read_O, View.write_read_eq_piecewise]
    exact Finset.piecewise_eq_of_notMem _ _ _ (by show i ∉ (mO.access (rO p)).set; rw [access_O]; exact fun h => e ((mem_O p i).mp h))

theorem own_out_step {Q : PUnit.{1} → sProp 𝕄} (k : TcProg F) :
    iprop(ptR c c (RV m c) ∗ ∃ f, (((c : Thread nD τ).loc cc0_stg1_0) ↦{fullShare} f : sProp 𝕄))
      ⊢ iprop(((ptR c c (RV m c) ∗ outSt m c far) -∗ WP c k Q) -∗ WP c (ownOutStep c (sc0 m) (sc1 m) k) Q) := by
  unfold ownOutStep outSt
  iintro ⟨HV, ⟨%f, H⟩⟩ Hk
  iapply (load_R c c (k0_off2_eq c) (RV m c)) $$ HV; iintro HV
  rw [read_R]
  iapply (store_O m c c (k0_off11_eq c) f) $$ H
  iintro %g %hg H
  iapply Hk
  isplitl [HV]; · iexact HV
  iexists g
  isplitr
  · ipureintro
    intro i hi
    rw [hg i]
    refine if_pos ?_
    have hlt : (i 0).val < 4096 := (i 0).isLt
    by_contra hne
    obtain ⟨r, hr⟩ := exists_pr (c := c) (p := ⟨(i 0).val / 128, by show _ < 32; omega⟩) (fun h => hne (congrArg Fin.val h))
    exact hi r (mem_far r) (congrArg Fin.val hr).symm
  iexact H

/-- The receive wait alone. -/
theorem out_wait {Q : PUnit.{1} → sProp 𝕄} (k : TcProg F) (r : Fin 31) {o} {ho} {sp' : Space} {s' : Shape} {e'}
    {src : Memref sig .tc sp' s' e'} {hsrc hdst} :
    iprop(Recs m K ∗ cred (tallyAt (gR c (pr c r)) () NP) ∗ Ow (F := F) c 0 ∗ atPos ER (gR c (pr c r)) 0 ∅ 0)
      ⊢ iprop(((Ow c 0 ∗ semVal (gR c (pr c r)) 0 ∗ ptR c (pr c r) (RV m c)) -∗ WP c k Q)
        -∗ WP c (.op (.waitDma2 (semAt cc0_scratch6 (k0_off9 c (BitVec.ofNat 32 (1 + r.val))) (k0_off9_inb c r))
          src (slotAt mR o ho) hsrc hdst) fun _ => k) Q) := by
  refine wait_close m K c k (qR (pr c r)) (semR_at (pr c r) (off9_eq c r)) (.inr (.inr (.inl (pr c r)))) rfl NP ?_
    (expect_R m c (pr c r) (pr_ne c r)) (later_R m c (pr c r)) (rest_R m c (pr c r) (pr_ne c r))
  rfl

theorem out_step {Q : PUnit.{1} → sProp 𝕄} (k : TcProg F) (r : Fin 31) (l : List (Fin 31)) :
    iprop(Recs m K ∗ cred (tallyAt (gR c (pr c r)) () NP) ∗ Ow (F := F) c 0 ∗ atPos ER (gR c (pr c r)) 0 ∅ 0 ∗ outSt m c (r :: l))
      ⊢ iprop(((Ow c 0 ∗ semVal (gR c (pr c r)) 0 ∗ ptR c (pr c r) (RV m c) ∗ outSt m c l) -∗ WP c k Q)
        -∗ WP c (outStep c (sc0 m) (sc1 m) r k) Q) := by
  unfold outStep outSt
  iintro ⟨#HR, Hc, HO, Hat, ⟨%f, %hf, H⟩⟩ Hk
  iapply (out_wait m K c _ r) $$ [Hc HO Hat]
  · isplitr; · iexact HR
    isplitl [Hc]; · iexact Hc
    isplitl [HO] <;> iassumption
  iintro ⟨HO, Hz, HV⟩
  iapply (load_R c (pr c r) (off3_eq c r) (RV m c)) $$ HV; iintro HV
  rw [read_R]
  iapply (store_O m c (pr c r) (off12_eq c r) f) $$ H
  iintro %g %hg H
  iapply Hk
  isplitl [HO]; · iexact HO
  isplitl [Hz]; · iexact Hz
  isplitl [HV]; · iexact HV
  iexists g
  isplitr
  · ipureintro
    intro i hi
    rw [hg i]
    by_cases e : (i 0).val / 128 = (pr c r).val
    · exact if_pos e
    · rw [if_neg e]
      exact hf i fun r' hr' => by
        rcases List.mem_cons.mp hr' with rfl | h
        · exact e
        · exact hi r' h
  iexact H

end Cert.KernelIdeal.Dist

end
-- ==== Proof.Loops.lean ====
/- The loops, each a whole: what all its steps take and what they leave. -/
module

public import proofs.«01_k».proof.Proof.Sends
public import Idealize.ShloMosaic.Lib.Pipeline.BigSepL

@[expose] public section

noncomputable section

namespace Cert.KernelIdeal.Dist

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)
variable (K : Dev nD × Sm → ℕ) (c : Dev nD)

/-! ## The rule -/

/-- A loop carrying a value, from its steps: the entries' own resources `A` become `B`, the state `C` runs along. -/
theorem runC_wp {σ : Type} {Q : PUnit.{1} → sProp 𝕄} (f : Fin 31 → σ → (σ → TcProg F) → TcProg F) (R : sProp 𝕄) [BI.Persistent R]
    (A B : Fin 31 → sProp 𝕄) (C : List (Fin 31) → σ → sProp 𝕄) (full : List (Fin 31))
    (h : ∀ r l a (k : σ → TcProg F) (P : sProp 𝕄), (r :: l) <:+ full → (∀ a', iprop(P ∗ B r ∗ C l a') ⊢ WP c (k a') Q) →
      iprop(P ∗ R ∗ A r ∗ C (r :: l) a) ⊢ WP c (f r a k) Q) (k : σ → TcProg F) :
    ∀ (l : List (Fin 31)) (a : σ) (P : sProp 𝕄), l <:+ full → (∀ a', iprop(P ∗ bigSepL l B ∗ C [] a') ⊢ WP c (k a') Q) →
      iprop(P ∗ R ∗ bigSepL l A ∗ C l a) ⊢ WP c (runC f l a k) Q := by
  intro l
  induction l with
  | nil =>
    intro a P _ hk
    refine BIBase.Entails.trans ?_ (hk a)
    rw [bigSepL_nil, bigSepL_nil]
    iintro ⟨HP, -, HE, HC⟩
    isplitl [HP]; · iexact HP
    isplitl [HE] <;> iassumption
  | cons r l ih =>
    intro a P hs hk
    have e := h r l a (fun a' => runC f l a' k) iprop(P ∗ R ∗ bigSepL l A) hs fun a' => by
      refine BIBase.Entails.trans ?_ (ih a' iprop(P ∗ B r) ((List.suffix_cons r l).trans hs) fun a'' => BIBase.Entails.trans ?_ (hk a''))
      · iintro ⟨⟨HP, HR, HA⟩, HB, HC⟩
        isplitl [HP HB]; · isplitl [HP] <;> iassumption
        isplitl [HR]; · iexact HR
        isplitl [HA] <;> iassumption
      · rw [bigSepL_cons']
        iintro ⟨⟨HP, HB⟩, HL, HC⟩
        isplitl [HP]; · iexact HP
        isplitl [HB HL]; · isplitl [HB] <;> iassumption
        iexact HC
    refine BIBase.Entails.trans ?_ e
    rw [bigSepL_cons']
    iintro ⟨HP, #HR, ⟨HA, HL⟩, HC⟩
    isplitl [HP HL]
    · isplitl [HP]; · iexact HP
      isplitr; · iexact HR
      iexact HL
    isplitr; · iexact HR
    isplitl [HA] <;> iassumption

theorem runL_eq {ι : Type} (f : ι → TcProg F → TcProg F) (k : TcProg F) :
    ∀ l, runL f l k = runC (fun r (_ : Unit) k' => f r (k' ())) l () fun _ => k
  | [] => rfl
  | r :: l => congrArg (f r) (runL_eq f k l)

theorem univ_near (Φ : Fin 31 → sProp 𝕄) : bigSep Finset.univ Φ = bigSepL near Φ := bigSep_univ_eq_bigSepL near (by decide) (by decide) Φ
theorem univ_far (Φ : Fin 31 → sProp 𝕄) : bigSep Finset.univ Φ = bigSepL far Φ := bigSep_univ_eq_bigSepL far (by decide) (by decide) Φ

/-- A loop without a value, over all distances in the order `full`. -/
theorem runL_wp {Q : PUnit.{1} → sProp 𝕄} (f : Fin 31 → TcProg F → TcProg F) (R : sProp 𝕄) [BI.Persistent R]
    (A B : Fin 31 → sProp 𝕄) (C : List (Fin 31) → sProp 𝕄) (full : List (Fin 31)) (hu : ∀ Φ : Fin 31 → sProp 𝕄, bigSep Finset.univ Φ = bigSepL full Φ)
    (h : ∀ r l (k : TcProg F), iprop(R ∗ A r ∗ C (r :: l)) ⊢ iprop(((B r ∗ C l) -∗ WP c k Q) -∗ WP c (f r k) Q)) (k : TcProg F) :
    iprop(R ∗ bigSep Finset.univ A ∗ C full) ⊢ iprop(((bigSep Finset.univ B ∗ C []) -∗ WP c k Q) -∗ WP c (runL f full k) Q) := by
  rw [runL_eq, hu A, hu B]
  refine BIClass.wand_intro ?_
  refine BIBase.Entails.trans ?_ (runC_wp c (fun r (_ : Unit) k' => f r (k' ())) R A B (fun l _ => C l) full (fun r l a k' P _ hk => ?_) (fun _ => k)
    full () iprop((bigSepL full B ∗ C []) -∗ WP c k Q) (List.suffix_refl full) fun _ => ?_)
  · iintro ⟨⟨HR, HA, HC⟩, Hk⟩
    isplitl [Hk]; · iexact Hk
    isplitl [HR]; · iexact HR
    isplitl [HA] <;> iassumption
  · iintro ⟨HP, HH⟩
    iapply (h r l (k' ())) $$ HH
    iintro HH
    iapply (hk ())
    isplitl [HP] <;> iassumption
  · iintro ⟨Hk, HH⟩
    iapply Hk; iexact HH

/-! ## The entry barrier -/

theorem O₁_cons (r : Fin 31) (l : List (Fin 31)) : O₁ c (r :: l) = O₁ c l + oBar c r := by
  unfold O₁; rw [owesL_cons (oBar c) r l, add_assoc]
theorem O₁_nil : O₁ c [] = O₂ c near := by unfold O₁; rw [owesL_nil, add_zero]

theorem barrier_wp {Q : PUnit.{1} → sProp 𝕄} (k : TcProg F) :
    iprop(Recs m K ∗ levAts L lv ∗ cred (tallyAt (gBar c) () 31) ∗ Ow (F := F) c (O₀ c) ∗ atPos ER (gBar c) 0 ∅ 0
        ∗ (bigSep Finset.univ fun r => dutyTok ER (gBar (pr c r)) 0 c) ∗ (bigSep Finset.univ fun r => barPay (F := F) (pr c r) c))
      ⊢ iprop(((Ow c (O₂ c near) ∗ semVal (gBar c) 0 ∗ bigSep Finset.univ fun r : Fin 31 => barPay (F := F) c (pr c r)) -∗ WP c k Q)
        -∗ WP c (runL (sigStep c) near (.op (.semWait semBar (31#32 : BitVec 32).toInt) fun _ => k)) Q) := by
  iintro ⟨#HR, #Hlev, Hc, HO, Hat, HT, HP⟩ Hk
  iapply (runL_wp (Q := Q) c (sigStep c) (Recs m K) (fun r => iprop(dutyTok ER (gBar (pr c r)) 0 c ∗ barPay (F := F) (pr c r) c))
    (fun _ => iprop(emp)) (fun l => Ow (F := F) c (O₁ c l)) near univ_near (fun r l k' => by
      rw [O₁_cons]
      iintro ⟨#HR, ⟨Ht, Hp⟩, HO⟩ Hk
      iapply (sig_step m K c r (O₁ c l) k') $$ [Ht Hp HO]
      · isplitr; · iexact HR
        isplitl [Ht]; · iexact Ht
        isplitl [Hp] <;> iassumption
      iintro HO
      iapply Hk
      isplitr; · iempintro
      iexact HO)) $$ [HO HT HP]
  · isplitr; · iexact HR
    isplitl [HT HP]
    · rw [bigSep_sep']; isplitl [HT] <;> iassumption
    iexact HO
  rw [O₁_nil]
  iintro ⟨-, HO⟩
  iapply (bar_step m K c k) $$ [Hc HO Hat]
  · isplitr; · iexact HR
    isplitr; · iexact Hlev
    isplitl [Hc]; · iexact Hc
    isplitl [HO] <;> iassumption
  iexact Hk

/-! ## The products -/

theorem near_at : ∀ i : Fin 31, near[i.val]? = some i := by decide
theorem suffix_near {r : Fin 31} {l : List (Fin 31)} (h : (r :: l) <:+ near) : r.val + l.length = 30 := by
  obtain ⟨t, ht⟩ := h
  have hlen : t.length + (l.length + 1) = 31 := by
    have := congrArg List.length ht
    simpa only [List.length_append, List.length_cons, List.length_nil] using this
  have h1 : near[t.length]? = some r := by
    rw [← ht, List.getElem?_append_right (Nat.le_refl _), Nat.sub_self]; rfl
  have h2 := near_at ⟨t.length, by omega⟩
  have h3 : r = ⟨t.length, by omega⟩ := Option.some.inj (h1.symm.trans h2)
  rw [h3]; show t.length + l.length = 30; omega

/-- What runs along the product loop: the four fetch slots from the `n`-th turn on, what is owed, the rows of `x`, and
    a running magnitude that will end at the largest. -/
def prodC (l : List (Fin 31)) (a : F .f32) : sProp 𝕄 :=
  iprop(⌜l.foldl (stepA m c) a = Amax m c⌝ ∗ slotNow (F := F) c (32 - l.length) ∗ slotNow (F := F) c (33 - l.length)
    ∗ slotNow (F := F) c (34 - l.length) ∗ slotNow (F := F) c (35 - l.length) ∗ Ow (F := F) c (O₂ c l) ∗ ptX m c)

theorem prods_wp {Q : PUnit.{1} → sProp 𝕄} (k : F .f32 → TcProg F) :
    iprop(Recs m K ∗ levAts L lv ∗ (bigSep Finset.univ fun r => prodA m c r) ∗ prodC m c near (A0 m c))
      ⊢ iprop(((bigSep Finset.univ (fun r => prodB m c r) ∗ prodC m c [] (Amax m c)) -∗ WP c (k (Amax m c)) Q)
        -∗ WP c (runC (prodStep c) near (A0 m c) k) Q) := by
  rw [univ_near, univ_near]
  refine BIClass.wand_intro ?_
  refine BIBase.Entails.trans ?_ (runC_wp (Q := Q) c (prodStep c) iprop(Recs m K ∗ levAts L lv) (fun r => prodA m c r) (fun r => prodB m c r)
    (prodC m c) near (fun r l a k' P hs hk => ?_) k near (A0 m c)
    iprop((bigSepL near (fun r => prodB m c r) ∗ prodC m c [] (Amax m c)) -∗ WP c (k (Amax m c)) Q) (List.suffix_refl near) fun a' => ?_)
  · iintro ⟨⟨HR, HL, HA, HC⟩, Hk⟩
    isplitl [Hk]; · iexact Hk
    isplitl [HR HL]; · isplitl [HR] <;> iassumption
    isplitl [HA] <;> iassumption
  · have hr := suffix_near hs
    unfold prodC
    rw [List.length_cons, show 32 - (l.length + 1) = 1 + r.val by omega, show 33 - (l.length + 1) = 32 - l.length by omega,
      show 34 - (l.length + 1) = 33 - l.length by omega, show 35 - (l.length + 1) = 34 - l.length by omega]
    iintro ⟨HP, ⟨#HR, #Hlev⟩, HA, %ha, H1, H2, H3, H4, HO, HX⟩
    iapply (prod_step m K c r l a k') $$ [HA H1 HO HX]
    · isplitr; · iexact HR
      isplitr; · iexact Hlev
      isplitl [HA]; · iexact HA
      isplitl [H1]; · iexact H1
      isplitl [HO] <;> iassumption
    rw [show 5 + r.val = 35 - l.length by omega]
    iintro ⟨HB, H5, HO, HX⟩
    iapply (hk (stepA m c a r))
    isplitl [HP]; · iexact HP
    isplitl [HB]; · iexact HB
    unfold prodC
    isplitr; · ipureintro; exact ha
    isplitl [H2]; · iexact H2
    isplitl [H3]; · iexact H3
    isplitl [H4]; · iexact H4
    isplitl [H5]; · iexact H5
    isplitl [HO] <;> iassumption
  · unfold prodC
    iintro ⟨Hk, HB, %ha, H⟩
    obtain rfl : a' = Amax m c := ha
    iapply Hk
    isplitl [HB]; · iexact HB
    isplitr; · ipureintro; rfl
    iexact H

/-! ## The magnitudes, the result, and the sends' ends -/

theorem amp_sends_wp {Q : PUnit.{1} → sProp 𝕄} (k : TcProg F) :
    iprop(Recs m K ∗ (bigSep Finset.univ fun r => ampPre m c r) ∗ Ow (F := F) c (O₂ c []))
      ⊢ iprop((((bigSep Finset.univ fun r => cred (tallyAt (gX c (up r)) () NA)) ∗ Ow (F := F) c 0) -∗ WP c k Q)
        -∗ WP c (runL (ampSendStep c) near k) Q) := by
  rw [O₂_nil]
  exact runL_wp (Q := Q) c (ampSendStep c) (Recs m K) (fun r => ampPre m c r) (fun r => cred (tallyAt (gX c (up r)) () NA))
    (fun l => Ow (F := F) c (owesL (oY c) l)) near univ_near (fun r l k' => by
      rw [owesL_cons (oY c) r l]; exact amp_send_step m K c k' r (owesL (oY c) l)) k

theorem amp_waits_wp {Q : PUnit.{1} → sProp 𝕄} (k : TcProg F) :
    iprop(Recs m K ∗ (bigSep Finset.univ fun r => iprop(cred (tallyAt (gY c (pr c r)) () NA) ∗ atPos ER (gY c (pr c r)) 0 ∅ 0)) ∗ Ow (F := F) c 0)
      ⊢ iprop((((bigSep Finset.univ fun r => iprop(semVal (gY c (pr c r)) 0 ∗ ptA fullShare c (pr c r) (AV m))) ∗ Ow (F := F) c 0) -∗ WP c k Q)
        -∗ WP c (runL (ampWaitStep c) far k) Q) :=
  runL_wp (Q := Q) c (ampWaitStep c) (Recs m K) _ _ (fun _ => Ow (F := F) c 0) far univ_far (fun r l k' => by
    iintro ⟨#HR, ⟨Hc, Hat⟩, HO⟩ Hk
    iapply (amp_wait_step m K c k' r) $$ [Hc Hat HO]
    · isplitr; · iexact HR
      isplitl [Hc]; · iexact Hc
      isplitl [HO] <;> iassumption
    iintro ⟨HO, HV⟩
    iapply Hk
    isplitl [HV] <;> iassumption) k

theorem outs_wp {Q : PUnit.{1} → sProp 𝕄} (k : TcProg F) :
    iprop(Recs m K ∗ (bigSep Finset.univ fun r => iprop(cred (tallyAt (gR c (pr c r)) () NP) ∗ atPos ER (gR c (pr c r)) 0 ∅ 0))
        ∗ Ow (F := F) c 0 ∗ outSt m c far)
      ⊢ iprop((((bigSep Finset.univ fun r => iprop(semVal (gR c (pr c r)) 0 ∗ ptR c (pr c r) (RV m c))) ∗ Ow (F := F) c 0 ∗ outSt m c []) -∗ WP c k Q)
        -∗ WP c (runL (outStep c (sc0 m) (sc1 m)) far k) Q) :=
  runL_wp (Q := Q) c (outStep c (sc0 m) (sc1 m)) (Recs m K) _ _ (fun l => iprop(Ow (F := F) c 0 ∗ outSt m c l)) far univ_far (fun r l k' => by
    iintro ⟨#HR, ⟨Hc, Hat⟩, HO, HS⟩ Hk
    iapply (out_step m K c k' r l) $$ [Hc Hat HO HS]
    · isplitr; · iexact HR
      isplitl [Hc]; · iexact Hc
      isplitl [HO]; · iexact HO
      isplitl [Hat] <;> iassumption
    iintro ⟨HO, Hz, HV, HS⟩
    iapply Hk
    isplitl [Hz HV]; · isplitl [Hz] <;> iassumption
    isplitl [HO] <;> iassumption) k

theorem sents_wp {Q : PUnit.{1} → sProp 𝕄} (k : TcProg F) :
    iprop(Recs m K ∗ (bigSep Finset.univ fun r => iprop(cred (tallyAt (gS c (up r)) () NP) ∗ atPos ER (gS c (up r)) 0 ∅ 0)) ∗ Ow (F := F) c 0)
      ⊢ iprop((((bigSep Finset.univ fun r => iprop(semVal (gS c (up r)) 0 ∗ ptS c (pr c r) (SV m c))) ∗ Ow (F := F) c 0) -∗ WP c k Q)
        -∗ WP c (runL (sentStep c) near k) Q) :=
  runL_wp (Q := Q) c (sentStep c) (Recs m K) _ _ (fun _ => Ow (F := F) c 0) near univ_near (fun r l k' => by
    iintro ⟨#HR, ⟨Hc, Hat⟩, HO⟩ Hk
    iapply (sent_step m K c k' r) $$ [Hc Hat HO]
    · isplitr; · iexact HR
      isplitl [Hc]; · iexact Hc
      isplitl [HO] <;> iassumption
    iintro ⟨HO, HV⟩
    iapply Hk
    isplitl [HV] <;> iassumption) k

theorem amp_sents_wp {Q : PUnit.{1} → sProp 𝕄} (k : TcProg F) :
    iprop(Recs m K ∗ (bigSep Finset.univ fun r => iprop(cred (tallyAt (gX c (up r)) () NA) ∗ atPos ER (gX c (up r)) 0 ∅ 0)) ∗ Ow (F := F) c 0)
      ⊢ iprop((((bigSep Finset.univ fun r => iprop(semVal (gX c (up r)) 0 ∗ ptA (shX (up r)) c c (AV m))) ∗ Ow (F := F) c 0) -∗ WP c k Q)
        -∗ WP c (runL (ampSentStep c) near k) Q) :=
  runL_wp (Q := Q) c (ampSentStep c) (Recs m K) _ _ (fun _ => Ow (F := F) c 0) near univ_near (fun r l k' => by
    iintro ⟨#HR, ⟨Hc, Hat⟩, HO⟩ Hk
    iapply (amp_sent_step m K c k' r) $$ [Hc Hat HO]
    · isplitr; · iexact HR
      isplitl [Hc]; · iexact Hc
      isplitl [HO] <;> iassumption
    iintro ⟨HO, HV⟩
    iapply Hk
    isplitl [HV] <;> iassumption) k

end Cert.KernelIdeal.Dist

end
-- ==== Proof.BodyWp.lean ====
/- The body as a whole, on one device `c`: from the memory, tokens and credit the launch hands it to the
   memory as it leaves it, with the result staged and every semaphore at zero. -/
module

public import proofs.«01_k».proof.Proof.Loops

@[expose] public section

noncomputable section

namespace Cert.KernelIdeal.Dist

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)
variable (K : Dev nD × Sm → ℕ) (c : Dev nD)

/-! ## The magnitudes' shares -/

/-- What is kept of a slot of magnitudes while its 31 read tokens are out. -/
abbrev shD : PosShare TreeShare := Transfers.shareDrop fullShare 31

theorem shX_up (r : Fin 31) : shX (up r) = Transfers.shareTok fullShare 31 r :=
  congrArg (Transfers.shareTokN fullShare) (Nat.add_sub_cancel_left 1 r.val)

theorem lend_A (p : Dev nD) (f) :
    (ptA (F := F) fullShare c p f : sProp 𝕄) ⊢ iprop(ptA shD c p f ∗ bigSep Finset.univ fun r : Fin 31 => ptA (shX (up r)) c p f) := by
  simp only [shX_up]; unfold ptA; exact Transfers.pointsTo_toks_split fullShare 31
theorem back_A (p : Dev nD) (f) :
    iprop(ptA shD c p f ∗ bigSep Finset.univ fun r : Fin 31 => ptA (shX (up r)) c p f) ⊢ (ptA (F := F) fullShare c p f : sProp 𝕄) := by
  simp only [shX_up]; unfold ptA; exact Transfers.pointsTo_toks_join fullShare 31

/-! ## Buffers by slots -/

theorem slots {T : Type} [Fintype T] {ℓ : Loc nD τ sig} {q : PosShare TreeShare} {f : Buf (Elt F) ℓ} (S : T → Finset (Idx ℓ))
    (hc : Finset.univ.biUnion S = Finset.univ) (hd : ∀ p p', p ≠ p' → Disjoint (S p) (S p')) :
    (ℓ ↦{q} f : sProp 𝕄) = bigSep Finset.univ fun p => (ℓ ↦[S p]{q} f : sProp 𝕄) := by
  have h := pointsTo_biUnion (nD := nD) (τ := τ) (sig := sig) (Ix := Unit) (Val := Elt F) (Name := ℕ) (U := UU) (Lvl := ℕ) (ℓ := ℓ) (q := q) (f := f) Finset.univ S fun p _ p' _ h => hd p p' h
  rw [hc] at h; exact h

theorem slots_A (q : PosShare TreeShare) (f : (cc0_scratch3 : Ref sig .tc).ty.Contents (Elt F)) :
    (((c : Thread nD τ).loc cc0_scratch3) ↦{q} f : sProp 𝕄) = bigSep Finset.univ fun p => ptA q c p f :=
  (slots (ℓ := (c : Thread nD τ).loc cc0_scratch3) (fun p => (rA p).set) cover_A fun _ _ h => disj_A h).trans
    (bigSep_congr fun p _ => by unfold ptA; rw [set_vA])
theorem slots_R (f : (cc0_scratch2 : Ref sig .tc).ty.Contents (Elt F)) :
    (((c : Thread nD τ).loc cc0_scratch2) ↦{fullShare} f : sProp 𝕄) = bigSep Finset.univ fun p => ptR c p f :=
  (slots (ℓ := (c : Thread nD τ).loc cc0_scratch2) (fun p => (rP p).set) cover_P fun _ _ h => disj_P h).trans
    (bigSep_congr fun p _ => by unfold ptR; rw [set_vR])
theorem slots_S (f : (cc0_scratch1 : Ref sig .tc).ty.Contents (Elt F)) :
    (((c : Thread nD τ).loc cc0_scratch1) ↦{fullShare} f : sProp 𝕄) = bigSep Finset.univ fun p => ptS c p f :=
  (slots (ℓ := (c : Thread nD τ).loc cc0_scratch1) (fun p => (rP p).set) cover_P fun _ _ h => disj_P h).trans
    (bigSep_congr fun p _ => by unfold ptS; rw [set_vS])
theorem slots_B (f : (cc0_scratch0 : Ref sig .tc).ty.Contents (Elt F)) :
    (((c : Thread nD τ).loc cc0_scratch0) ↦{fullShare} f : sProp 𝕄) = bigSep Finset.univ fun s => ptB c s f :=
  (slots (ℓ := (c : Thread nD τ).loc cc0_scratch0) (fun p => (rB p).set) cover_B fun _ _ h => disj_B h).trans
    (bigSep_congr fun p _ => by unfold ptB; rw [set_bSlot])
theorem slots_W : (((c : Thread nD τ).loc main_arg1) ↦{fullShare} (W m c) : sProp 𝕄) = bigSep Finset.univ fun p => ptW m c p :=
  (slots (ℓ := (c : Thread nD τ).loc main_arg1) (fun p => (rW p).set) cover_W fun _ _ h => disj_W h).trans
    (bigSep_congr fun p _ => by unfold ptW; rw [set_vW])

theorem halves {T : Type} [Fintype T] (Φ Ψ : T → sProp 𝕄) :
    (bigSep Finset.univ fun r => iprop(Φ r ∗ Ψ r)) ⊢ iprop(bigSep Finset.univ Φ ∗ bigSep Finset.univ Ψ) := Entails.of_eq (bigSep_sep' _ Φ Ψ)
theorem both {T : Type} [Fintype T] (Φ Ψ : T → sProp 𝕄) :
    iprop(bigSep Finset.univ Φ ∗ bigSep Finset.univ Ψ) ⊢ (bigSep Finset.univ fun r => iprop(Φ r ∗ Ψ r)) := Entails.of_eq (bigSep_sep' _ Φ Ψ).symm
theorem every {T : Type} [Fintype T] {Φ Ψ : T → sProp 𝕄} (h : ∀ r, Φ r ⊢ Ψ r) : bigSep Finset.univ Φ ⊢ bigSep Finset.univ Ψ :=
  bigSep_mono fun r _ => h r

/-! ## The end: magnitudes, scale, result, and the sends' ends -/

/-- What the body's end takes. -/
def endPre : sProp 𝕄 :=
  iprop((∃ f, ptA (F := F) fullShare c c f)
    ∗ (bigSep Finset.univ fun r : Fin 31 => iprop((∃ f, ptA (F := F) fullShare (pr c r) c f)
        ∗ dutyTok ER (gX c (up r)) 0 c ∗ dutyTok ER (gY (pr c r) c) 0 c))
    ∗ (bigSep Finset.univ fun r : Fin 31 => iprop(cred (tallyAt (gY c (pr c r)) () NA) ∗ atPos ER (gY c (pr c r)) 0 ∅ 0))
    ∗ (bigSep Finset.univ fun r : Fin 31 => iprop(cred (tallyAt (gR c (pr c r)) () NP) ∗ atPos ER (gR c (pr c r)) 0 ∅ 0))
    ∗ (bigSep Finset.univ fun r : Fin 31 => iprop(cred (tallyAt (gS c (up r)) () NP) ∗ atPos ER (gS c (up r)) 0 ∅ 0))
    ∗ (bigSep Finset.univ fun r : Fin 31 => atPos ER (gX c (up r)) 0 ∅ 0)
    ∗ Ow (F := F) c (O₂ c []) ∗ ptR c c (RV m c) ∗ ∃ f, (((c : Thread nD τ).loc cc0_stg1_0) ↦{fullShare} f))
/-- What it leaves. -/
def endPost : sProp 𝕄 :=
  iprop((bigSep Finset.univ fun r : Fin 31 => semVal (gY c (pr c r)) 0)
    ∗ (bigSep Finset.univ fun r : Fin 31 => iprop(semVal (gR c (pr c r)) 0 ∗ ptR c (pr c r) (RV m c)))
    ∗ (bigSep Finset.univ fun r : Fin 31 => iprop(semVal (gS c (up r)) 0 ∗ ptS c (pr c r) (SV m c)))
    ∗ (bigSep Finset.univ fun r : Fin 31 => semVal (gX c (up r)) 0)
    ∗ (((c : Thread nD τ).loc cc0_scratch3) ↦{fullShare} (AV m)) ∗ Ow (F := F) c 0 ∗ ptR c c (RV m c) ∗ outSt m c [])

theorem ret_wp {Q : PUnit.{1} → sProp 𝕄} : iprop(|={Set.univ}[frame]=> Q ⟨⟩) ⊢ WP c (.ret ⟨⟩ : TcProg F) Q := Entails.of_eq (wp_ret _ _ _ _ _).symm

theorem end_wp {Q : PUnit.{1} → sProp 𝕄} :
    iprop(Recs m K ∗ endPre m c) ⊢ iprop((endPost m c -∗ |={Set.univ}[frame]=> Q ⟨⟩)
      -∗ WP c (ampStep c (Amax m c) <| runL (ampSendStep c) near <| runL (ampWaitStep c) far <| scaleStep fun v =>
        ownOutStep c (k0_pay110 v) (k0_pay111 v) <| runL (outStep c (k0_pay110 v) (k0_pay111 v)) far <|
        runL (sentStep c) near <| runL (ampSentStep c) near <| .ret ⟨⟩) Q) := by
  unfold endPre endPost
  iintro ⟨#HR, HA, HT, HY, HRc, HS, HXp, HO, HV, HG⟩ Hk
  iapply (amp_step m c _) $$ HA; iintro HA
  ihave HA := (lend_A c c (AV m)) $$ HA
  icases HA with ⟨HAd, HAt⟩
  iapply (amp_sends_wp m K c _) $$ [HAt HT HO]
  · isplitr; · iexact HR
    isplitl [HAt HT]
    · unfold ampPre; iapply (both _ _); isplitl [HAt] <;> iassumption
    iexact HO
  iintro ⟨HXc, HO⟩
  iapply (amp_waits_wp m K c _) $$ [HY HO]
  · isplitr; · iexact HR
    isplitl [HY] <;> iassumption
  iintro ⟨HYz, HO⟩
  ihave HYz := (halves _ _) $$ HYz
  icases HYz with ⟨HYz, HP⟩
  ihave HP := (every fun r : Fin 31 => lend_A c (pr c r) (AV m)) $$ HP
  ihave HP := (halves _ _) $$ HP
  icases HP with ⟨HPd, HPt⟩
  ihave HW := (Entails.of_eq ((slots_A c shD (AV m)).trans (around c fun p => ptA shD c p (AV m))).symm) $$ [HAd HPd]
  · isplitl [HAd] <;> iassumption
  iapply (scale_step m c shD _) $$ HW; iintro HW
  ihave HW := (Entails.of_eq ((slots_A c shD (AV m)).trans (around c fun p => ptA shD c p (AV m)))) $$ HW
  icases HW with ⟨HAd, HPd⟩
  iapply (own_out_step m c _) $$ [HV HG]
  · isplitl [HV] <;> iassumption
  iintro ⟨HV, HG⟩
  iapply (outs_wp m K c _) $$ [HRc HO HG]
  · isplitr; · iexact HR
    isplitl [HRc]; · iexact HRc
    isplitl [HO] <;> iassumption
  iintro ⟨HRz, HO, HG⟩
  iapply (sents_wp m K c _) $$ [HS HO]
  · isplitr; · iexact HR
    isplitl [HS] <;> iassumption
  iintro ⟨HSz, HO⟩
  iapply (amp_sents_wp m K c _) $$ [HXc HXp HO]
  · isplitr; · iexact HR
    isplitl [HXc HXp]
    · iapply (both _ _); isplitl [HXc] <;> iassumption
    iexact HO
  iintro ⟨HXz, HO⟩
  ihave HXz := (halves _ _) $$ HXz
  icases HXz with ⟨HXz, HAt⟩
  iapply (ret_wp c)
  iapply Hk
  isplitl [HYz]; · iexact HYz
  isplitl [HRz]; · iexact HRz
  isplitl [HSz]; · iexact HSz
  isplitl [HXz]; · iexact HXz
  isplitl [HAd HAt HPd HPt]
  · iapply (Entails.of_eq ((slots_A c fullShare (AV m)).trans (around c fun p => ptA fullShare c p (AV m))).symm)
    isplitl [HAd HAt]
    · iapply (back_A c c (AV m)); isplitl [HAd] <;> iassumption
    iapply (every fun r : Fin 31 => back_A c (pr c r) (AV m))
    iapply (both _ _)
    isplitl [HPd] <;> iassumption
  isplitl [HO]; · iexact HO
  isplitl [HV] <;> iassumption

/-! ## The middle: the fetches and the products -/

/-- The fetch of the `n`-th column block, if there is one. -/
def nth (n : ℕ) : sProp 𝕄 := if h : n < 32 then before m c ⟨n, h⟩ else iprop(emp)

theorem nth_ahead (n : ℕ) : nth m c (n + 4) = ahead m c n := rfl

theorem before_all : (bigSep Finset.univ fun j : Fin 32 => before m c j)
    ⊢ iprop(before m c 0 ∗ before m c 1 ∗ before m c 2 ∗ before m c 3 ∗ ahead m c 0 ∗ bigSep Finset.univ fun r : Fin 31 => ahead m c (1 + r.val)) := by
  have e1 : (bigSep Finset.univ fun j : Fin 32 => before m c j) = bigSepL ((List.finRange 32).map Fin.val) (nth m c) := by
    rw [bigSepL_map, bigSep_univ_eq_bigSepL (List.finRange 32) (by decide) (List.nodup_finRange 32)]
    exact congrArg (bigSepL (List.finRange 32)) (funext fun j => by unfold nth; rw [dif_pos j.isLt])
  have e2 : (bigSep Finset.univ fun r : Fin 31 => ahead m c (1 + r.val)) = bigSepL (near.map fun r => 1 + r.val + 4) (nth m c) := by
    rw [bigSepL_map, univ_near]; rfl
  have e3 : near.map (fun r => 1 + r.val + 4)
      = ((List.finRange 32).map Fin.val).drop 5 ++ [32, 33, 34, 35] := by decide
  have e4 : bigSepL [32, 33, 34, 35] (nth m c) = iprop(emp ∗ emp ∗ emp ∗ emp) := rfl
  have e5 : ((List.finRange 32).map Fin.val) = [0, 1, 2, 3, 4] ++ ((List.finRange 32).map Fin.val).drop 5 := by decide
  have e6 : bigSepL [0, 1, 2, 3, 4] (nth m c) = iprop(before m c 0 ∗ before m c 1 ∗ before m c 2 ∗ before m c 3 ∗ ahead m c 0) := rfl
  rw [e1, e2, e3, bigSepL_append, e4, e5, bigSepL_append, e6]
  iintro ⟨⟨H0, H1, H2, H3, H4⟩, H⟩
  isplitl [H0]; · iexact H0
  isplitl [H1]; · iexact H1
  isplitl [H2]; · iexact H2
  isplitl [H3]; · iexact H3
  isplitl [H4]; · iexact H4
  isplitl [H]; · iexact H
  isplitr; · iempintro
  isplitr; · iempintro
  isplitr <;> iempintro

theorem four (Φ : Fin 4 → sProp 𝕄) : bigSep Finset.univ Φ = iprop(Φ (sl 0) ∗ Φ (sl 1) ∗ Φ (sl 2) ∗ Φ (sl 3)) :=
  bigSep_univ_eq_bigSepL [sl 0, sl 1, sl 2, sl 3] (by decide) (by decide) Φ

/-- What the fetches and the products take. -/
def midPre : sProp 𝕄 :=
  iprop((bigSep Finset.univ fun j : Fin 32 => before m c j)
    ∗ (bigSep Finset.univ fun s : Fin 4 => iprop(atPos ER (gF c s) 0 ∅ 0 ∗ ∃ f, ptB (F := F) c s f))
    ∗ (bigSep Finset.univ fun r : Fin 31 => sendPre (F := F) c r)
    ∗ Ow (F := F) c (O₂ c near) ∗ ptX m c ∗ (∃ f, ptR (F := F) c c f))
/-- What they leave. -/
def midPost : sProp 𝕄 :=
  iprop((bigSep Finset.univ fun p : Dev nD => ptW m c p)
    ∗ (bigSep Finset.univ fun s : Fin 4 => idle (F := F) c s)
    ∗ (bigSep Finset.univ fun r : Fin 31 => cred (tallyAt (gS c (up r)) () NP))
    ∗ Ow (F := F) c (O₂ c []) ∗ ptX m c ∗ ptR c c (RV m c))

theorem flight_eq (j : Fin 32) : slotNow (F := F) c j.val = flight c j := dif_pos j.isLt

theorem idle_eq (i : Fin 4) : slotNow (F := F) c (32 + i.val - ([] : List (Fin 31)).length) = idle c (sl ⟨i.val, by omega⟩) := by
  fin_cases i <;> exact dif_neg (by decide)

theorem mid_wp {Q : PUnit.{1} → sProp 𝕄} (k : F .f32 → TcProg F) :
    iprop(Recs m K ∗ levAts L lv ∗ midPre m c) ⊢ iprop((midPost m c -∗ WP c (k (Amax m c)) Q)
      -∗ WP c (fetchStep c 0 <| fetchStep c 1 <| fetchStep c 2 <| fetchStep c 3 <| ownStep c fun a => runC (prodStep c) near a k) Q) := by
  unfold midPre midPost
  rw [four, four (fun s => idle c s)]
  iintro ⟨#HR, #Hlev, HB, ⟨⟨Ha0, Hb0⟩, ⟨Ha1, Hb1⟩, ⟨Ha2, Hb2⟩, ⟨Ha3, Hb3⟩⟩, HS, HO, HX, HV⟩ Hk
  ihave HB := (before_all m c) $$ HB
  icases HB with ⟨H0, H1, H2, H3, H4, HA⟩
  iapply (fetch_step m K c _ 0) $$ [H0 Ha0 Hb0]
  · isplitr; · iexact HR
    isplitl [H0]; · iexact H0
    isplitl [Ha0]; · iexact Ha0
    isplitr; · iapply (reached_at m K c (kF (sl 0))); iexact HR
    iexact Hb0
  iintro H0
  iapply (fetch_step m K c _ 1) $$ [H1 Ha1 Hb1]
  · isplitr; · iexact HR
    isplitl [H1]; · iexact H1
    isplitl [Ha1]; · iexact Ha1
    isplitr; · iapply (reached_at m K c (kF (sl 1))); iexact HR
    iexact Hb1
  iintro H1
  iapply (fetch_step m K c _ 2) $$ [H2 Ha2 Hb2]
  · isplitr; · iexact HR
    isplitl [H2]; · iexact H2
    isplitl [Ha2]; · iexact Ha2
    isplitr; · iapply (reached_at m K c (kF (sl 2))); iexact HR
    iexact Hb2
  iintro H2
  iapply (fetch_step m K c _ 3) $$ [H3 Ha3 Hb3]
  · isplitr; · iexact HR
    isplitl [H3]; · iexact H3
    isplitl [Ha3]; · iexact Ha3
    isplitr; · iapply (reached_at m K c (kF (sl 3))); iexact HR
    iexact Hb3
  iintro H3
  iapply (own_step m K c _) $$ [H0 H4 HO HX HV]
  · isplitr; · iexact HR
    isplitr; · iexact Hlev
    isplitl [H0]; · iexact H0
    isplitl [H4]; · iexact H4
    isplitl [HO]; · iexact HO
    isplitl [HX] <;> iassumption
  iintro ⟨H4, HO, HX, HWc, HV⟩
  iapply (prods_wp m K c k) $$ [H1 H2 H3 H4 HA HS HO HX]
  · isplitr; · iexact HR
    isplitr; · iexact Hlev
    isplitl [HA HS]
    · unfold prodA; iapply (both _ _); isplitl [HA] <;> iassumption
    unfold prodC
    isplitr; · ipureintro; rfl
    isplitl [H1]; · iapply (Entails.of_eq (flight_eq c 1).symm); iexact H1
    isplitl [H2]; · iapply (Entails.of_eq (flight_eq c 2).symm); iexact H2
    isplitl [H3]; · iapply (Entails.of_eq (flight_eq c 3).symm); iexact H3
    isplitl [H4]; · iexact H4
    isplitl [HO] <;> iassumption
  unfold prodB prodC
  iintro ⟨HB, -, H0, H1, H2, H3, HO, HX⟩
  ihave HB := (halves _ _) $$ HB
  icases HB with ⟨HW, Hc⟩
  iapply Hk
  isplitl [HW HWc]
  · iapply (Entails.of_eq (around c fun p => ptW m c p).symm); isplitl [HWc] <;> iassumption
  isplitl [H0 H1 H2 H3]
  · isplitl [H0]; · iapply (Entails.of_eq (idle_eq c 0)); iexact H0
    isplitl [H1]; · iapply (Entails.of_eq (idle_eq c 1)); iexact H1
    isplitl [H2]; · iapply (Entails.of_eq (idle_eq c 2)); iexact H2
    iapply (Entails.of_eq (idle_eq c 3)); iexact H3
  isplitl [Hc]; · iexact Hc
  isplitl [HO]; · iexact HO
  isplitl [HX] <;> iassumption

end Cert.KernelIdeal.Dist

end
-- ==== Proof.Whole.lean ====
/- The body from its first operation to its last, between the memory as the launch hands it over and as it is
   handed back. -/
module

public import proofs.«01_k».proof.Proof.BodyWp

@[expose] public section

noncomputable section

namespace Cert.KernelIdeal.Dist

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)
variable (K : Dev nD × Sm → ℕ) (c : Dev nD)

/-! ## What the launch hands over -/

/-- Device `c`'s positions on its own semaphores. -/
def Poss : sProp 𝕄 := bigSep Finset.univ fun k : Sm => atPos ER (cellAt (c, k)) 0 ∅ 0
/-- The tokens of the duties device `c` pays. -/
def Toks : sProp 𝕄 :=
  iprop((bigSep Finset.univ fun j : Fin 32 => dutyTok ER (gF c (sl j)) (j.val / 4) c)
    ∗ (bigSep Finset.univ fun r : Fin 31 => dutyTok ER (gBar (pr c r)) 0 c)
    ∗ (bigSep Finset.univ fun r : Fin 31 => dutyTok ER (gS c (up r)) 0 c)
    ∗ (bigSep Finset.univ fun r : Fin 31 => dutyTok ER (gR (pr c r) c) 0 c)
    ∗ (bigSep Finset.univ fun r : Fin 31 => dutyTok ER (gX c (up r)) 0 c)
    ∗ bigSep Finset.univ fun r : Fin 31 => dutyTok ER (gY (pr c r) c) 0 c)
/-- The credit of what the others owe device `c`. -/
def Creds : sProp 𝕄 :=
  iprop(cred (tallyAt (gBar c) () 31) ∗ (bigSep Finset.univ fun r : Fin 31 => cred (tallyAt (gR c (pr c r)) () NP))
    ∗ bigSep Finset.univ fun r : Fin 31 => cred (tallyAt (gY c (pr c r)) () NA))
/-- Device `c`'s copy of `w`. -/
def argW : sProp 𝕄 := (((c : Thread nD τ).loc main_arg1) ↦{fullShare} (W m c))
/-- Its scratch buffers at any contents. -/
def Scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem by_kind (Φ : Own → sProp 𝕄) : bigSep Finset.univ Φ
    = iprop((bigSep Finset.univ fun s => Φ (.inl s)) ∗ (bigSep Finset.univ fun j => Φ (.inr (.inl j)))
      ∗ (bigSep Finset.univ fun p => Φ (.inr (.inr (.inl p)))) ∗ (bigSep Finset.univ fun j => Φ (.inr (.inr (.inr (.inl j)))))
      ∗ bigSep Finset.univ fun p => Φ (.inr (.inr (.inr (.inr p))))) := by
  rw [bigSep_univ_sum, bigSep_univ_sum (fun b => Φ (.inr b)), bigSep_univ_sum (fun b => Φ (.inr (.inr b))),
    bigSep_univ_sum (fun b => Φ (.inr (.inr (.inr b))))]
  rfl
theorem with_bar (Φ : Sm → sProp 𝕄) : bigSep Finset.univ Φ = iprop(Φ kB ∗ bigSep Finset.univ fun k : Own => Φ (.inr k)) := by
  rw [bigSep_univ_sum, show (Finset.univ : Finset Unit) = {()} from rfl, bigSep_singleton]
  rfl

theorem Poss_eq : Poss (F := F) c = iprop(atPos ER (gBar c) 0 ∅ 0
    ∗ (bigSep Finset.univ fun s : Fin 4 => atPos ER (gF c s) 0 ∅ 0)
    ∗ (atPos ER (gS c 0) 0 ∅ 0 ∗ bigSep Finset.univ fun r : Fin 31 => atPos ER (gS c (up r)) 0 ∅ 0)
    ∗ (atPos ER (gR c c) 0 ∅ 0 ∗ bigSep Finset.univ fun r : Fin 31 => atPos ER (gR c (pr c r)) 0 ∅ 0)
    ∗ (atPos ER (gX c 0) 0 ∅ 0 ∗ bigSep Finset.univ fun r : Fin 31 => atPos ER (gX c (up r)) 0 ∅ 0)
    ∗ (atPos ER (gY c c) 0 ∅ 0 ∗ bigSep Finset.univ fun r : Fin 31 => atPos ER (gY c (pr c r)) 0 ∅ 0)) := by
  rw [← distances (fun j => atPos ER (gS c j) 0 ∅ 0), ← around c (fun p => atPos ER (gR c p) 0 ∅ 0),
    ← distances (fun j => atPos ER (gX c j) 0 ∅ 0), ← around c (fun p => atPos ER (gY c p) 0 ∅ 0)]
  unfold Poss
  rw [with_bar, by_kind]
  rfl

theorem zeros_eq : (ownSems0 (Ix := Unit) (Name := ℕ) (U := UU) (Lvl := ℕ) (Val := Elt F) (τ := τ) osem c : sProp 𝕄)
    = iprop((bigSep Finset.univ fun s : Fin 4 => semVal (gF c s) 0)
    ∗ (semVal (gS c 0) 0 ∗ bigSep Finset.univ fun r : Fin 31 => semVal (gS c (up r)) 0)
    ∗ (semVal (gR c c) 0 ∗ bigSep Finset.univ fun r : Fin 31 => semVal (gR c (pr c r)) 0)
    ∗ (semVal (gX c 0) 0 ∗ bigSep Finset.univ fun r : Fin 31 => semVal (gX c (up r)) 0)
    ∗ (semVal (gY c c) 0 ∗ bigSep Finset.univ fun r : Fin 31 => semVal (gY c (pr c r)) 0)) := by
  rw [← distances (fun j => semVal (gS c j) 0), ← around c (fun p => semVal (gR c p) 0),
    ← distances (fun j => semVal (gX c j) 0), ← around c (fun p => semVal (gY c p) 0)]
  unfold ownSems0
  rw [by_kind]
  rfl

/-! ## Buffers opened and closed -/

theorem open_R : iprop(∃ f : Buf (Elt F) ((c : Thread nD τ).loc cc0_scratch2), ((c : Thread nD τ).loc cc0_scratch2) ↦{fullShare} f)
    ⊢ iprop((∃ f, ptR (F := F) c c f) ∗ bigSep Finset.univ fun r : Fin 31 => iprop(∃ f, ptR (F := F) c (pr c r) f)) := by
  iintro ⟨%f, H⟩
  ihave H := (Entails.of_eq ((slots_R c f).trans (around c fun p => ptR c p f))) $$ H
  icases H with ⟨H, Hs⟩
  isplitl [H]; · iexists f; iexact H
  iapply (every fun r : Fin 31 => (by iintro H; iexists f; iexact H : ptR c (pr c r) f ⊢ iprop(∃ f, ptR (F := F) c (pr c r) f)))
  iexact Hs
theorem open_S : iprop(∃ f : Buf (Elt F) ((c : Thread nD τ).loc cc0_scratch1), ((c : Thread nD τ).loc cc0_scratch1) ↦{fullShare} f)
    ⊢ iprop((∃ f, ptS (F := F) c c f) ∗ bigSep Finset.univ fun r : Fin 31 => iprop(∃ f, ptS (F := F) c (pr c r) f)) := by
  iintro ⟨%f, H⟩
  ihave H := (Entails.of_eq ((slots_S c f).trans (around c fun p => ptS c p f))) $$ H
  icases H with ⟨H, Hs⟩
  isplitl [H]; · iexists f; iexact H
  iapply (every fun r : Fin 31 => (by iintro H; iexists f; iexact H : ptS c (pr c r) f ⊢ iprop(∃ f, ptS (F := F) c (pr c r) f)))
  iexact Hs
theorem open_A : iprop(∃ f : Buf (Elt F) ((c : Thread nD τ).loc cc0_scratch3), ((c : Thread nD τ).loc cc0_scratch3) ↦{fullShare} f)
    ⊢ iprop((∃ f, ptA (F := F) fullShare c c f) ∗ bigSep Finset.univ fun r : Fin 31 => iprop(∃ f, ptA (F := F) fullShare c (pr c r) f)) := by
  iintro ⟨%f, H⟩
  ihave H := (Entails.of_eq ((slots_A c fullShare f).trans (around c fun p => ptA fullShare c p f))) $$ H
  icases H with ⟨H, Hs⟩
  isplitl [H]; · iexists f; iexact H
  iapply (every fun r : Fin 31 => (by iintro H; iexists f; iexact H : ptA fullShare c (pr c r) f ⊢ iprop(∃ f, ptA (F := F) fullShare c (pr c r) f)))
  iexact Hs
theorem open_B : iprop(∃ f : Buf (Elt F) ((c : Thread nD τ).loc cc0_scratch0), ((c : Thread nD τ).loc cc0_scratch0) ↦{fullShare} f)
    ⊢ (bigSep Finset.univ fun s : Fin 4 => iprop(∃ f, ptB (F := F) c s f)) := by
  iintro ⟨%f, H⟩
  ihave H := (Entails.of_eq (slots_B c f)) $$ H
  iapply (every fun s : Fin 4 => (by iintro H; iexists f; iexact H : ptB c s f ⊢ iprop(∃ f, ptB (F := F) c s f)))
  iexact H

/-- The parts of a buffer, each at some contents, are the buffer at some contents. -/
theorem joined {T : Type} [Fintype T] [DecidableEq T] {ℓ : Loc nD τ sig} [Nonempty (Buf (Elt F) ℓ)] (S : T → Finset (Idx ℓ))
    (hc : Finset.univ.biUnion S = Finset.univ) (hd : ∀ p p', p ≠ p' → Disjoint (S p) (S p')) :
    (bigSep Finset.univ fun p => iprop(∃ f : Buf (Elt F) ℓ, (ℓ ↦[S p]{fullShare} f : sProp 𝕄))) ⊢ iprop(∃ f : Buf (Elt F) ℓ, (ℓ ↦{fullShare} f : sProp 𝕄)) := by
  have h := fun fs : T → Buf (Elt F) ℓ => pointsTo_biUnion_join (nD := nD) (τ := τ) (sig := sig) (Ix := Unit) (Val := Elt F) (Name := ℕ) (U := UU) (Lvl := ℕ)
    (ℓ := ℓ) (q := fullShare) Finset.univ S fs (Classical.arbitrary _) fun p _ p' _ h => hd p p' h
  rw [hc] at h
  iintro H
  ihave H := (BI.bigSep_exists_pi Finset.univ fun (p : T) (f : Buf (Elt F) ℓ) => (ℓ ↦[S p]{fullShare} f : sProp 𝕄)) $$ H
  icases H with ⟨%fs, H⟩
  ihave H := (h fs) $$ H
  icases H with ⟨%g, -, H⟩
  iexists g; iexact H

theorem close_R : iprop(ptR c c (RV m c) ∗ bigSep Finset.univ fun r : Fin 31 => ptR c (pr c r) (RV m c))
    ⊢ iprop(∃ f : Buf (Elt F) ((c : Thread nD τ).loc cc0_scratch2), ((c : Thread nD τ).loc cc0_scratch2) ↦{fullShare} f) := by
  iintro H
  iexists (RV m c)
  iapply (Entails.of_eq ((slots_R c (RV m c)).trans (around c fun p => ptR c p (RV m c))).symm)
  iexact H
theorem close_S : iprop((∃ f, ptS (F := F) c c f) ∗ bigSep Finset.univ fun r : Fin 31 => ptS c (pr c r) (SV m c))
    ⊢ iprop(∃ f : Buf (Elt F) ((c : Thread nD τ).loc cc0_scratch1), ((c : Thread nD τ).loc cc0_scratch1) ↦{fullShare} f) := by
  have h := joined (F := F) (ℓ := (c : Thread nD τ).loc cc0_scratch1) (fun p => (rP p).set) cover_P fun _ _ h => disj_P h
  have e : (bigSep Finset.univ fun p => iprop(∃ f, ptS (F := F) c p f))
      = bigSep Finset.univ fun p : Dev nD => iprop(∃ f : Buf (Elt F) ((c : Thread nD τ).loc cc0_scratch1), ((c : Thread nD τ).loc cc0_scratch1) ↦[(rP p).set]{fullShare} f) :=
    bigSep_congr fun p _ => by unfold ptS; rw [set_vS]
  iintro ⟨H, Hs⟩
  iapply h
  iapply (Entails.of_eq e)
  iapply (Entails.of_eq (around c fun p => iprop(∃ f, ptS (F := F) c p f)).symm)
  isplitl [H]; · iexact H
  iapply (every fun r : Fin 31 => (by iintro H; iexists (SV m c); iexact H : ptS c (pr c r) (SV m c) ⊢ iprop(∃ f, ptS (F := F) c (pr c r) f)))
  iexact Hs
theorem close_B : (bigSep Finset.univ fun s : Fin 4 => iprop(∃ f, ptB (F := F) c s f))
    ⊢ iprop(∃ f : Buf (Elt F) ((c : Thread nD τ).loc cc0_scratch0), ((c : Thread nD τ).loc cc0_scratch0) ↦{fullShare} f) := by
  have h := joined (F := F) (ℓ := (c : Thread nD τ).loc cc0_scratch0) (fun s => (rB s).set) cover_B fun _ _ h => disj_B h
  have e : (bigSep Finset.univ fun p => iprop(∃ f, ptB (F := F) c p f))
      = bigSep Finset.univ fun p : Fin 4 => iprop(∃ f : Buf (Elt F) ((c : Thread nD τ).loc cc0_scratch0), ((c : Thread nD τ).loc cc0_scratch0) ↦[(rB p).set]{fullShare} f) :=
    bigSep_congr fun p _ => by unfold ptB; rw [set_bSlot]
  exact (Entails.of_eq e).trans h

/-- The column blocks of `w` in the order of their fetches. -/
theorem fetch_order : (bigSep Finset.univ fun p : Dev nD => ptW m c p) = bigSep Finset.univ fun j : Fin 32 => ptW m c (along c j) :=
  bigSep_univ_equiv (Equiv.ofBijective (along c) (Finite.injective_iff_bijective.mp (along_inj c))) fun p => ptW m c p

theorem close_unused (k : Own) (h : ∀ r, 0 ≤ r → (Rd (F := F) m).duties ((c : Thread nD τ), osem k) r = ∅) :
    iprop(Recs m K ∗ atPos ER (((c : Thread nD τ), osem k) : GSem nD τ sig) 0 ∅ 0) ⊢ |={Set.univ}[frame]=> (semVal ((c : Thread nD τ), osem k) 0 : sProp 𝕄) := by
  iintro ⟨#HR, Hat⟩
  imod (Rounds.cell_close ER (Rd (F := F) m) (Set.mem_univ (K (c, .inr k))) (fun h => h) (R := 0) h) $$ [Hat] with Hz
  · isplitr; · iapply (inv_at m K c (.inr k)); iexact HR
    iexact Hat
  imodintro; iexact Hz

/-! ## The body -/

/-- What the body takes, -/
def bodyIn : sProp 𝕄 :=
  iprop(Poss (F := F) c ∗ Toks (F := F) c ∗ Creds (F := F) c ∗ argW m c ∗ Scr (F := F) c ∗ Ow (F := F) c (O₀ c) ∗ ptX m c
    ∗ ∃ f, (((c : Thread nD τ).loc cc0_stg1_0) ↦{fullShare} f))
/-- and what it leaves. -/
def bodyOut : sProp 𝕄 :=
  iprop(semVal (gBar c) 0 ∗ ownSems0 (Ix := Unit) (Name := ℕ) (U := UU) (Lvl := ℕ) (Val := Elt F) (τ := τ) osem c ∗ argW m c
    ∗ Scr (F := F) c ∗ Ow (F := F) c 0 ∗ ptX m c ∗ (((c : Thread nD τ).loc cc0_stg1_0) ↦{fullShare} (OV m c)))

theorem device_wp (k : Dev nD → TcProg F) (Q : PUnit.{1} → sProp 𝕄) : WP c (.op .deviceId k) Q = WP c (k c) Q := by
  unfold WP
  exact wp_deviceId ..

theorem body_wp {Q : PUnit.{1} → sProp 𝕄} :
    iprop(Recs m K ∗ levAts L lv ∗ bodyIn m c) ⊢ iprop((bodyOut m c -∗ Q ⟨⟩) -∗ WP c body Q) := by
  unfold bodyIn bodyOut body Toks Creds argW Scr
  rw [Poss_eq, zeros_eq, device_wp]
  iintro ⟨#HR, #Hlev, ⟨PB, PF, ⟨PS0, PS⟩, ⟨PR0, PR⟩, ⟨PX0, PX⟩, ⟨PY0, PY⟩⟩, ⟨TF, TB, TS, TR, TX, TY⟩, ⟨CB, CR, CY⟩, HW, ⟨MB, MS, MR, MA⟩, HO, HX, HG⟩ Hk
  ihave MB := (open_B c) $$ MB
  ihave MS := (open_S c) $$ MS
  icases MS with ⟨MS0, MS⟩
  ihave MR := (open_R c) $$ MR
  icases MR with ⟨MR0, MR⟩
  ihave MA := (open_A c) $$ MA
  icases MA with ⟨MA0, MA⟩
  iapply (barrier_wp m K c (bodyAfter c)) $$ [CB HO PB TB MR MA]
  · isplitr; · iexact HR
    isplitr; · iexact Hlev
    isplitl [CB]; · iexact CB
    isplitl [HO]; · iexact HO
    isplitl [PB]; · iexact PB
    isplitl [TB]; · iexact TB
    unfold barPay
    iapply (both _ _); isplitl [MR] <;> iassumption
  iintro ⟨HO, ZB, HP⟩
  unfold barPay
  ihave HP := (halves _ _) $$ HP
  icases HP with ⟨HPR, HPA⟩
  unfold bodyAfter
  iapply (mid_wp m K c _) $$ [TF HW PF MB MS HPR TS TR HO HX MR0]
  · isplitr; · iexact HR
    isplitr; · iexact Hlev
    unfold midPre
    isplitl [TF HW]
    · unfold before
      iapply (both _ _)
      isplitl [TF]; · iexact TF
      iapply (Entails.of_eq ((slots_W m c).trans (fetch_order m c))); iexact HW
    isplitl [PF MB]
    · iapply (both _ _); isplitl [PF] <;> iassumption
    isplitl [MS HPR TS TR]
    · unfold sendPre
      iapply (both _ _); isplitl [MS]; · iexact MS
      iapply (both _ _); isplitl [HPR]; · iexact HPR
      iapply (both _ _); isplitl [TS] <;> iassumption
    isplitl [HO]; · iexact HO
    isplitl [HX] <;> iassumption
  unfold midPost
  iintro ⟨HW, HI, CS, HO, HX, HV⟩
  iapply (end_wp m K c) $$ [MA0 HPA TX TY CY PY CR PR CS PS PX HO HV HG]
  · isplitr; · iexact HR
    unfold endPre
    isplitl [MA0]; · iexact MA0
    isplitl [HPA TX TY]
    · iapply (both _ _); isplitl [HPA]; · iexact HPA
      iapply (both _ _); isplitl [TX] <;> iassumption
    isplitl [CY PY]; · iapply (both _ _); isplitl [CY] <;> iassumption
    isplitl [CR PR]; · iapply (both _ _); isplitl [CR] <;> iassumption
    isplitl [CS PS]; · iapply (both _ _); isplitl [CS] <;> iassumption
    isplitl [PX]; · iexact PX
    isplitl [HO]; · iexact HO
    isplitl [HV] <;> iassumption
  unfold endPost
  iintro ⟨ZY, ER', ES', ZX, MA, HO, HV, HG⟩
  ihave ER' := (halves _ _) $$ ER'
  icases ER' with ⟨ZR, MR⟩
  ihave ES' := (halves _ _) $$ ES'
  icases ES' with ⟨ZS, MS⟩
  unfold idle
  ihave HI := (halves _ _) $$ HI
  icases HI with ⟨ZF, MB⟩
  imod (close_unused m K c (.inr (.inl 0)) (never_S m c)) $$ [PS0] with ZS0
  · isplitr; · iexact HR
    iexact PS0
  imod (close_unused m K c (.inr (.inr (.inl c))) (never_R m c)) $$ [PR0] with ZR0
  · isplitr; · iexact HR
    iexact PR0
  imod (close_unused m K c (.inr (.inr (.inr (.inl 0)))) (never_X m c)) $$ [PX0] with ZX0
  · isplitr; · iexact HR
    iexact PX0
  imod (close_unused m K c (.inr (.inr (.inr (.inr c)))) (never_Y m c)) $$ [PY0] with ZY0
  · isplitr; · iexact HR
    iexact PY0
  imodintro
  iapply Hk
  isplitl [ZB]; · iexact ZB
  isplitl [ZF ZS0 ZS ZR0 ZR ZX0 ZX ZY0 ZY]
  · isplitl [ZF]; · iexact ZF
    isplitl [ZS0 ZS]; · isplitl [ZS0]; (· iexact ZS0); iexact ZS
    isplitl [ZR0 ZR]; · isplitl [ZR0]; (· iexact ZR0); iexact ZR
    isplitl [ZX0 ZX]; · isplitl [ZX0]; (· iexact ZX0); iexact ZX
    isplitl [ZY0]; · iexact ZY0
    iexact ZY
  isplitl [HW]; · iapply (Entails.of_eq (slots_W m c).symm); iexact HW
  isplitl [MB MS0 MS MR HV MA]
  · isplitl [MB]; · iapply (close_B c); iexact MB
    isplitl [MS0 MS]; · iapply (close_S m c); isplitl [MS0] <;> iassumption
    isplitl [MR HV]; · iapply (close_R m c); isplitl [HV] <;> iassumption
    iexists (AV m); iexact MA
  isplitl [HO]; · iexact HO
  isplitl [HX]; · iexact HX
  unfold outSt
  icases HG with ⟨%f, %hf, HG⟩
  obtain rfl : f = OV m c := funext fun i => hf i (fun r hr => absurd hr List.not_mem_nil)
  iexact HG

end Cert.KernelIdeal.Dist

end
-- ==== Proof.Deal.lean ====
/- The protocol's resources at launch: minted, dealt to the devices that use them, and every semaphore's cell opened. -/
module

public import proofs.«01_k».proof.Proof.Whole
public import Idealize.ShloMosaic.Lib.Pipeline.CollectiveSegs

@[expose] public section

noncomputable section

namespace Cert.KernelIdeal.Dist

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-! ## The semaphores are distinct -/

def roleOf : Sm → Role
  | .inl _ => .bar
  | .inr (.inl s) => .fetch s
  | .inr (.inr (.inl j)) => .send j
  | .inr (.inr (.inr (.inl p))) => .recv p
  | .inr (.inr (.inr (.inr (.inl j)))) => .asend j
  | .inr (.inr (.inr (.inr (.inr p)))) => .arecv p
theorem role_ksem : ∀ k : Sm, role (ksem k) = roleOf k
  | .inl _ => role_bar
  | .inr (.inl s) => role_F s
  | .inr (.inr (.inl j)) => role_S j
  | .inr (.inr (.inr (.inl p))) => role_R p
  | .inr (.inr (.inr (.inr (.inl j)))) => role_X j
  | .inr (.inr (.inr (.inr (.inr p)))) => role_Y p
theorem roleOf_inj : Function.Injective roleOf := by
  rintro (_ | _ | _ | _ | _ | _) (_ | _ | _ | _ | _ | _) h <;> first | rfl | (cases h; rfl) | cases h
theorem ksem_inj : Function.Injective ksem := fun k k' h => roleOf_inj (by rw [← role_ksem, ← role_ksem, h])
theorem cellAt_inj : Function.Injective cellAt := fun i i' h =>
  Prod.ext (congrArg (fun g : GSem nD τ sig => g.1.1) h) (ksem_inj (congrArg Prod.snd h))

theorem ownSemFacts : Pipeline.OwnSemFacts cfg0.spec osem where
  isScoped k := by
    rcases k with s | j | p | j | p
    · revert s; decide
    · revert j; decide
    · revert p; decide
    · revert j; decide
    · revert p; decide
  inj k k' h := Sum.inr_injective (ksem_inj (a₁ := .inr k) (a₂ := .inr k') h)
  disj k w s h := by
    have h1 : ∀ (w : Fin 2) (s : Fin (spec0 w).nbuf), role (.dma ((spec0 w).sem s)) = .other := by decide
    have h1 := h1 w s
    rw [show SemLoc.dma ((spec0 w).sem s) = osem k from h.symm, show osem k = ksem (.inr k) from rfl, role_ksem] at h1
    rcases k with _ | _ | _ | _ | _ <;> cases h1

def theCells : Finset (GSem nD τ sig) := Finset.univ.map ⟨cellAt, cellAt_inj⟩

/-! ## The duties -/

/-- The duties of one device: its fetches, its signals, its sends and their landings, its magnitudes and theirs. -/
abbrev TokIx : Type := Fin 32 ⊕ (Fin 31 ⊕ (Fin 31 ⊕ (Fin 31 ⊕ (Fin 31 ⊕ Fin 31))))
instance : DecidableEq TokIx := instDecidableEqSum

/-- Where, and in what round, device `c` pays a duty. -/
def dutyAt (c : Dev nD) : TokIx → (Dev nD × Sm) × ℕ
  | .inl j => ((c, kF (sl j)), j.val / 4)
  | .inr (.inl r) => ((pr c r, kB), 0)
  | .inr (.inr (.inl r)) => ((c, kS (up r)), 0)
  | .inr (.inr (.inr (.inl r))) => ((pr c r, kR c), 0)
  | .inr (.inr (.inr (.inr (.inl r)))) => ((c, kX (up r)), 0)
  | .inr (.inr (.inr (.inr (.inr r)))) => ((pr c r, kY c), 0)
theorem up_inj {r r' : Fin 31} (h : up r = up r') : r = r' := Fin.ext (by
  have := congrArg Fin.val h; simp only [up] at this; omega)
theorem sl_inj {j j' : Fin 32} (h : sl j = sl j') (h' : j.val / 4 = j'.val / 4) : j = j' := Fin.ext (by
  have := congrArg Fin.val h; simp only [sl] at this; omega)
theorem dutyAt_inj (c : Dev nD) : Function.Injective (dutyAt c) := by
  rintro (j | r | r | r | r | r) (j' | r' | r' | r' | r' | r') h <;>
    simp only [dutyAt, Prod.mk.injEq, Sum.inl.injEq, Sum.inr.injEq, reduceCtorEq, false_and, and_false, true_and, and_true] at h
  · rw [sl_inj h.1 h.2]
  · rw [pr_inj c h]
  · rw [up_inj h]
  · rw [pr_inj c h]
  · rw [up_inj h]
  · rw [pr_inj c h]

abbrev tokOf (i : Dev nD × TokIx) : GSem nD τ sig × ℕ × Dev nD := (cellAt (dutyAt i.1 i.2).1, (dutyAt i.1 i.2).2, i.1)
theorem tokOf_inj : Function.Injective tokOf := by
  rintro ⟨c, t⟩ ⟨c', t'⟩ h
  obtain rfl : c = c' := congrArg (fun x : GSem nD τ sig × ℕ × Dev nD => x.2.2) h
  have h1 := cellAt_inj (congrArg Prod.fst h)
  have h2 := congrArg (fun x : GSem nD τ sig × ℕ × Dev nD => x.2.1) h
  exact congrArg (Prod.mk c) (dutyAt_inj c (Prod.ext h1 h2))
def theToks : Finset (GSem nD τ sig × ℕ × Dev nD) := Finset.univ.map ⟨tokOf, tokOf_inj⟩

/-! ## Minting and dealing -/

def u₀ : UU :=
  (initOf (Pipeline.cells cfgs cellOf_inj) (Pipeline.launchToks cfgs cellOf_inj), initOf theCells theToks)

theorem toks_eq (c : Dev nD) : (bigSep Finset.univ fun t : TokIx => (dutyTok ER (tokOf (c, t)).1 (tokOf (c, t)).2.1 (tokOf (c, t)).2.2 : sProp 𝕄))
    = Toks (F := F) c := by
  rw [bigSep_univ_sum, bigSep_univ_sum (fun b : Fin 31 ⊕ (Fin 31 ⊕ (Fin 31 ⊕ (Fin 31 ⊕ Fin 31))) => _), bigSep_univ_sum (fun b : Fin 31 ⊕ (Fin 31 ⊕ (Fin 31 ⊕ Fin 31)) => _),
    bigSep_univ_sum (fun b : Fin 31 ⊕ (Fin 31 ⊕ Fin 31) => _), bigSep_univ_sum (fun b : Fin 31 ⊕ Fin 31 => _)]
  rfl

/-- What device `c` is dealt. -/
def dealt (c : Dev nD) : sProp 𝕄 :=
  iprop((bigSep Finset.univ fun k : Sm => roundState ER (Rd (F := F) m) (cellAt (c, k)) 0)
    ∗ ((Poss (F := F) c) ∗ bigSep Finset.univ fun k : Sm => reached ER (cellAt (c, k)) 0) ∗ Toks (F := F) c)
/-- What it holds once the cells are open. -/
def held (c : Dev nD) : sProp 𝕄 := iprop(∃ K, Recs m K ∗ Poss (F := F) c ∗ Toks (F := F) c)

theorem fund_all : BI.own (ER (initOf theCells theToks)) ⊢ (|==> bigSep Finset.univ (dealt (F := F) m) : sProp 𝕄) := by
  have hX (Φ : GSem nD τ sig → sProp 𝕄) : bigSep theCells Φ = bigSep Finset.univ fun c : Dev nD => bigSep Finset.univ fun k : Sm => Φ (cellAt (c, k)) := by
    unfold theCells; rw [bigSep_map, bigSep_univ_prod]; rfl
  have hT : bigSep theToks (fun x => (dutyTok ER x.1 x.2.1 x.2.2 : sProp 𝕄)) = bigSep Finset.univ fun c : Dev nD => Toks (F := F) c := by
    unfold theToks; rw [bigSep_map, bigSep_univ_prod]
    exact bigSep_congr fun c _ => toks_eq c
  iintro HX
  imod (Rounds.fund ER (Rd (F := F) m) theCells theToks) $$ HX with ⟨Hst, Hr, Hat, Htok⟩
  imodintro
  ihave Hst := (Entails.of_eq (hX fun g => roundState ER (Rd (F := F) m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt Poss
  iapply (both _ _)
  isplitl [Hst]; · iexact Hst
  iapply (both _ _)
  isplitl [Hat Hr]
  · iapply (both _ _); isplitl [Hat] <;> iassumption
  iexact Htok

theorem unscopedSems0_eq (c : Dev nD) : (unscopedSems0 c : sProp 𝕄) = semVal (gBar c) 0 := by
  unfold unscopedSems0; rw [bigSep_eq_bigSepL_of_eq [SemLoc.reg semBar] (by decide) (by decide)]; rfl

/-- A device's semaphores at zero open its cells. -/
theorem open_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Sm => iprop(∃ κ : ℕ, cellInv ER (Rd (F := F) m) κ (cellAt (c, k))))
          ∗ (Poss (F := F) c ∗ bigSep Finset.univ fun k : Sm => reached ER (cellAt (c, k)) 0) ∗ Toks (F := F) c) := by
  have hz : (bigSep Finset.univ fun k : Sm => (semVal (cellAt (c, k)) 0 : sProp 𝕄))
      = iprop(semVal (gBar c) 0 ∗ Pipeline.ownSems0 (Ix := Unit) (Name := ℕ) (U := UU) (Lvl := ℕ) (Val := Elt F) (τ := τ) osem c) := by
    rw [with_bar]; rfl
  have ho : iprop((bigSep Finset.univ fun k : Sm => semVal (cellAt (c, k)) 0) ∗ bigSep Finset.univ fun k : Sm => roundState ER (Rd (F := F) m) (cellAt (c, k)) 0)
      ⊢ (|={Set.univ}=> bigSep Finset.univ fun k : Sm => iprop(∃ κ : ℕ, cellInv ER (Rd (F := F) m) κ (cellAt (c, k))) : sProp 𝕄) := by
    rw [← bigSep_sep']
    exact (bigSep_mono fun k _ => (Rounds.body_intro ER (Rd (F := F) m) (cellAt (c, k))).trans inv_alloc).trans (bigSep_fupd _ _)
  unfold dealt
  rw [unscopedSems0_eq]
  iintro ⟨HO, HB, Hst, Hat, Htok⟩
  imod ho $$ [HO HB Hst] with HI
  · isplitl [HO HB]
    · iapply (Entails.of_eq hz.symm)
      isplitl [HB] <;> iassumption
    iexact Hst
  imodintro
  isplitl [HI]; · iexact HI
  isplitl [Hat] <;> iassumption

theorem shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The open cells of all devices are known to each. -/
theorem regroup :
    (bigSep Finset.univ fun c : Dev nD => iprop((bigSep Finset.univ fun k : Sm => iprop(∃ κ : ℕ, cellInv ER (Rd (F := F) m) κ (cellAt (c, k))))
          ∗ (Poss (F := F) c ∗ bigSep Finset.univ fun k : Sm => reached ER (cellAt (c, k)) 0) ∗ Toks (F := F) c) : sProp 𝕄)
      ⊢ bigSep Finset.univ (held (F := F) m) := by
  iintro H
  ihave H := (halves _ _) $$ H
  icases H with ⟨HI, H⟩
  ihave H := (halves _ _) $$ H
  icases H with ⟨H, HT⟩
  ihave H := (halves _ _) $$ H
  icases H with ⟨HP, HR⟩
  ihave HI := (Entails.of_eq (bigSep_univ_prod (fun i : Dev nD × Sm => iprop(∃ κ : ℕ, cellInv ER (Rd (F := F) m) κ (cellAt i)))).symm) $$ HI
  ihave HR := (Entails.of_eq (bigSep_univ_prod (fun i : Dev nD × Sm => (reached ER (cellAt i) 0 : sProp 𝕄))).symm) $$ HR
  ihave HI := (BI.bigSep_exists_pi Finset.univ (fun (i : Dev nD × Sm) (κ : ℕ) => (cellInv ER (Rd (F := F) m) κ (cellAt i) : sProp 𝕄))) $$ HI
  icases HI with ⟨%K, HI⟩
  iapply (shared (R := Recs m K) (Φ := fun c => iprop(Poss (F := F) c ∗ Toks (F := F) c)) fun c _ => by
    unfold held
    iintro H
    iexists K
    iexact H)
  isplitl [HI HR]
  · unfold Recs; isplitl [HI] <;> iassumption
  iapply (both _ _); isplitl [HP] <;> iassumption

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (held (F := F) m) :=
  ((bigSep_mono fun c _ => open_cells m c).trans (bigSep_fupd _ _)).trans (BI.fupd_mono (regroup m))

/-! ## The launch's credit -/

/-- A device's distances in the other direction. -/
theorem bk_rev (c : Dev nD) (r : Fin 31) : bk c r = pr c (Fin.rev r) := Fin.ext (by
  have h1 : c.val < 32 := c.isLt
  have h2 : r.val < 31 := r.isLt
  simp only [bk, pr, along, up, Fin.rev]
  omega)

/-- Every device owing `n` to the semaphore `G p d` of each other device `p`, the launch credits each with what all the
    others owe it. -/
theorem credit_all (G : Dev nD → Dev nD → GSem nD τ sig) (hG : ∀ p d, (G p d).1 = (p.tc : Thread nD τ)) (n : ℕ) (c : Dev nD) :
    (Pipeline.launchCred (fun d => ∑ r : Fin 31, tallyAt (G (pr d r) d) () n) c : sProp 𝕄)
      = bigSep Finset.univ fun r : Fin 31 => cred (tallyAt (G c (pr c r)) () n) := by
  rw [Pipeline.launchCred_sum Finset.univ (fun r d => tallyAt (G (pr d r) d) () n)]
  rw [bigSep_univ_equiv Fin.revPerm fun r : Fin 31 => (cred (tallyAt (G c (pr c r)) () n) : sProp 𝕄)]
  refine bigSep_congr fun r _ => ?_
  rw [Pipeline.launchCred_of_sum _ (fun d => tallyAt (G d (bk d r)) () n) ?_ ?_ c, bk_rev]
  · rfl
  · exact Finset.sum_bijective (fun d => pr d r) ⟨fun d d' h => by
      have := congrArg (fun p => bk p r) h; simpa only [bk_pr] using this, fun p => ⟨bk p r, pr_bk p r⟩⟩ (fun _ => by simp) fun d _ => by rw [bk_pr]
  · intro d g hg
    by_cases e : g = G d (bk d r)
    · rw [e]; exact hG _ _
    · exact absurd (tallyAt_ne_cell e () n) hg

theorem launch_creds (c : Dev nD) : (Pipeline.launchCred O₀ c : sProp 𝕄) ⊢ Creds (F := F) c := by
  have e : O₀ = fun d => ((∑ r, oY d r) + ∑ r, oR d r) + ∑ r, oBar d r := funext fun d => by
    unfold O₀ O₁ O₂; rw [owesL_near, owesL_near, owesL_near]
  have hb : (cred (tallyAt (gBar c) () 31) : sProp 𝕄) = bigSep Finset.univ fun r : Fin 31 => cred (tallyAt (gBar c) () 1) := by
    rw [← cred_finsetSum Finset.univ fun _ : Fin 31 => tallyAt (gBar c) () 1]
    congr 1
    have : ∀ k : ℕ, k • tallyAt (nD := nD) (τ := τ) (sig := sig) (gBar c) () 1 = tallyAt (gBar c) () k := fun k => by
      induction k with
      | zero => rw [zero_smul]; exact (tallyAt_zero _ _).symm
      | succ k ih => rw [succ_nsmul, ih, tallyAt_add]
    rw [Finset.sum_const, this]; rfl
  unfold Creds
  rw [e, Pipeline.launchCred_add, Pipeline.launchCred_add, hb, credit_all (fun p d => gY p d) (fun _ _ => rfl) NA, credit_all (fun p d => gR p d) (fun _ _ => rfl) NP,
    credit_all (fun p _ => gBar p) (fun _ _ => rfl) 1]
  iintro ⟨⟨HY, HR⟩, HB⟩
  isplitl [HB]; · iexact HB
  isplitl [HR] <;> iassumption

end Cert.KernelIdeal.Dist

end
-- ==== Proof.Run.lean ====
/- The launch and the run: on every schedule the kernel ends, each device's result holds the values of `OV`, both
   inputs hold what they held, and every semaphore is at zero. -/
module

public import proofs.«01_k».proof.Proof.Deal

@[expose] public section

noncomputable section

namespace Cert.KernelIdeal.Dist

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-! ## The pipeline of the one call -/

/-- What a device starts from, -/
def start (c : Dev nD) : sProp 𝕄 := iprop(held (F := F) m c ∗ Creds (F := F) c ∗ argW m c ∗ levAts L lv)
/-- with its scratch buffers; -/
def Φ₀ (c : Dev nD) : sProp 𝕄 := iprop(start m c ∗ Scr (F := F) c)
/-- and what it ends with. -/
def Φ₁ (c : Dev nD) : sProp 𝕄 :=
  iprop(semVal (gBar c) 0 ∗ ownSems0 (Ix := Unit) (Name := ℕ) (U := UU) (Lvl := ℕ) (Val := Elt F) (τ := τ) osem c ∗ argW m c ∗ Scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => OV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem windows (Φ : Fin cfg0.W → sProp 𝕄) : bigSep Finset.univ Φ = iprop(Φ (0 : Fin 2) ∗ Φ (1 : Fin 2)) := bigSep_W0 Φ
theorem fetched (t : Fin cfg0.N) : (cfg0.win (0 : Fin 2)).fetch t = true := by rw [fin_N0 t]; rfl

theorem owns_whole (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

/-- Device `c`'s buffer `b` at contents `v`. -/
abbrev held_at (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

set_option maxRecDepth 4000 in
def pointPre (c : Dev nD) : sProp 𝕄 :=
  iprop(Φ₀ m c ∗ (dats m ρ 0 c).owesAt () t0_0.castSucc
    ∗ (∃ d, held_at c cc0_stg0_0 ((dats m ρ 0 c).before (0 : Fin 2) t0_0 d))
    ∗ (∃ d, held_at c cc0_stg1_0 ((dats m ρ 0 c).before (1 : Fin 2) t0_0 d)))
set_option maxRecDepth 4000 in
def pointPost (c : Dev nD) : sProp 𝕄 :=
  iprop(Φ₁ m c ∗ (dats m ρ 0 c).owesAt () t0_0.succ ∗ held_at c cc0_stg0_0 (X m c) ∗ held_at c cc0_stg1_0 (OV m c))

set_option maxRecDepth 4000 in
theorem point_wp (c : Dev nD) : pointPre m ρ c ⊢ WP (F := F) c body (fun _ => pointPost m ρ c) := by
  unfold pointPre Φ₀ start held Dat.owesAt Pipeline.owesWithin
  rw [show (dats m ρ 0 c).owed t0_0.castSucc = O₀ c from rfl]
  iintro ⟨⟨⟨⟨%K, HR, HP, HT⟩, HC, HW, Hlev⟩, HS⟩, ⟨%Ws, %hWs, HO⟩, ⟨%d0, %g0, %hg0, HX⟩, ⟨%d1, %g1, %hg1, HG⟩⟩
  have hx : g0 = X m c := by rw [hg0]; unfold Dat.before; rw [if_pos (fetched t0_0)]; rfl
  subst hx
  iapply (body_wp m K c) $$ [HR Hlev HP HT HC HW HS HO HX HG]
  · isplitl [HR]; · iexact HR
    isplitl [Hlev]; · iexact Hlev
    unfold bodyIn
    isplitl [HP]; · iexact HP
    isplitl [HT]; · iexact HT
    isplitl [HC]; · iexact HC
    isplitl [HW]; · iexact HW
    isplitl [HS]; · iexact HS
    isplitl [HO]; · unfold Ow; iexists Ws; iexact HO
    isplitl [HX]; · unfold ptX; iexact HX
    iexists g1; iexact HG
  unfold bodyOut pointPost Φ₁ Ow ptX Dat.owesAt Pipeline.owesWithin
  rw [show (dats m ρ 0 c).owed t0_0.succ = 0 from rfl]
  iintro ⟨ZB, ZO, HW, HS, ⟨%Ws', HO⟩, HX, HG⟩
  isplitl [ZB ZO HW HS]
  · isplitl [ZB]; · iexact ZB
    isplitl [ZO]; · iexact ZO
    isplitl [HW] <;> iassumption
  isplitl [HO]
  · iexists Ws'
    isplitr; · ipureintro; exact fun _ _ => Or.inl trivial
    iexact HO
  isplitl [HX]
  · iexists _; isplitr; · (ipureintro; rfl)
    iexact HX
  iexists _; isplitr; · (ipureintro; rfl)
  iexact HG

set_option maxRecDepth 100000 in
theorem body_obligation (c : Dev nD) : BodyObligation (dats (F := F) m ρ 0 c) (defs₀ (F := F)) 𝒱₀ () Set.univ := fun t => by
  rw [fin_N0 t]
  rw [windows, windows]
  simp only [owns_whole]
  show pointPre m ρ c ⊢ WP (F := F) c (cc0_body mX (Memref.isWhole_whole _) mW (Memref.isWhole_whole _) mO (Memref.isWhole_whole _)
    mB (Memref.isWhole_whole _) mS (Memref.isWhole_whole _) mR (Memref.isWhole_whole _) mA (Memref.isWhole_whole _)
    cc0_scratch4 cc0_scratch5 cc0_scratch6 cc0_scratch7 cc0_scratch8) (fun _ => pointPost m ρ c)
  rw [body_eq]
  exact point_wp m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held (F := F) m c)
      ⊢ |={Set.univ}=> iprop(start m c ∗ emp) := by
  rw [Pipeline.unscopedRestP_none, unscopedRest0_eq]
  iintro ⟨HW, Hlev, HC, -, HG⟩
  ihave HC := (launch_creds (F := F) c) $$ HC
  imodintro
  unfold start argW
  isplitl
  · isplitl [HG]; · iexact HG
    isplitl [HC]; · iexact HC
    isplitl [HW]; · iexact HW
    iexact Hlev
  · iempintro

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, HS⟩
  isplitl [Hs] <;> iassumption

/-- What is read of a device at the end: its entry barrier and its copy of `w`. -/
def kept (c : Dev nD) : sProp 𝕄 := iprop(unscopedSems0 c ∗ argW m c)

theorem last_exit (c : Dev nD) :
    (dats m ρ 0 c).Φ (Fin.last cfg0.N) ⊢ iprop(kept m c ∗ Pipeline.ownSems0 osem c ∗ Pipeline.scopedRest cfg0.spec c) := by
  unfold kept
  rw [show (dats m ρ 0 c).Φ (Fin.last cfg0.N) = Φ₁ m c from rfl, scopedRest0_eq, unscopedSems0_eq]
  unfold Φ₁ Scr
  iintro ⟨HB, HO, HW, HS⟩
  isplitl [HB HW]
  · isplitl [HB] <;> iassumption
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t => by
    have hq : ∀ (w : Fin 2) (s : Fin (spec0 w).nbuf), role (.dma ((spec0 w).sem s)) = .other := by decide
    rcases t with ⟨_ | _, ht⟩
    · exact mayWait_stage c _ (hq w s) near
    · exact mayWait_of fun g u h => absurd h (Nat.lt_irrefl 0)

theorem kept_read (c : Dev nD) (s' : Phys nD τ sig (Elt F)) :
    iprop(kept m c ∗ emp ∗ SI s')
      ⊢ |={Set.univ}=> iprop(⌜(∀ sm : SemLoc sig, sm.isScoped .tc = false → s'.mem.sem ((c.tc : Thread nD τ), sm) = 0)
          ∧ s'.mem.mem ((c.tc : Thread nD τ).loc main_arg1) = m ((c.tc : Thread nD τ).loc main_arg1)⌝ ∗ SI s') := by
  unfold kept argW
  iintro ⟨⟨HB, HW⟩, -, HS⟩
  ihave %hw := (SI_pointsTo_agree (st := s') (ℓ := (c.tc : Thread nD τ).loc main_arg1) (I := Finset.univ) (q := fullShare) (f := W m c)) $$ [HS HW]
  · isplitl [HS] <;> iassumption
  imod (Pipeline.unscopedSems0_read (X := unscopedSems0 c) (c := c) fupd_intro s') $$ [HB HS] with ⟨%hs, HS⟩
  · isplitl [HB] <;> iassumption
  imodintro
  isplitr
  · ipureintro; exact ⟨hs, funext fun i => hw i (Finset.mem_univ i)⟩
  iexact HS

/-! ## The run -/

/-- What an array of the call holds after the run. -/
def finalA (c : Dev nD) (w : Fin cfg0.W) : Buf (Elt F) ((cfg0.win w).arr.view.loc (c : Thread nD τ)) := (dats m ρ 0 c).arrAt w cfg0.N

/-- The end of a run. -/
def Ends (r : PUnit × MemSt nD τ sig (Elt F)) : Prop :=
  (∀ c : Dev nD, ∀ w : Fin cfg0.W, r.2.mem ((cfg0.win w).arr.view.loc (c : Thread nD τ)) = finalA m ρ c w)
    ∧ (∀ c : Dev nD, r.2.mem ((c : Thread nD τ).loc main_arg1) = m ((c : Thread nD τ).loc main_arg1))
    ∧ r.2.sem = fun _ => 0

set_option maxRecDepth 100000 in
/-- For any float values, from any memory with every semaphore at zero, every fair schedule of the devices ends so. -/
theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := held m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := first_intro m ρ) (hout := last_exit m ρ)
    (QY := fun c s => (∀ sm : SemLoc sig, sm.isScoped .tc = false → s.sem ((c.tc : Thread nD τ), sm) = 0)
      ∧ s.mem ((c.tc : Thread nD τ).loc main_arg1) = m ((c.tc : Thread nD τ).loc main_arg1))
    (hY := kept_read m)
    (hQ := fun _ h hs => ⟨fun c w => (h c).1 w, fun c => (h c).2.2.2, sem_eq_zero hs fun c => (h c).2.2.1⟩)

/-- The array of `x` is unchanged. -/
theorem final_x (c : Dev nD) : finalA m ρ c (0 : Fin 2) = m ((c : Thread nD τ).loc main_arg0) :=
  (dats (F := F) m ρ 0 c).arrAt_in (0 : Fin 2) rfl _

end Cert.KernelIdeal.Dist

end
-- ==== Proof.Result.lean ====
/- What the kernel's arrays hold once it has run: a single grid point stages all the rows of `x` of a device
   and writes back all its columns of the result. -/
module

public import proofs.«01_k».proof.Proof.Run

@[expose] public section

noncomputable section

namespace Cert.KernelIdeal.Dist

open Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem off_x : (fun a => win0_0.index t0_0 a * main_arg0.ty.shape.size a) = fun _ => 0 := funext fun a => by fin_cases a <;> decide
theorem off_o : (fun a => win0_1.index t0_0 a * main_v1.ty.shape.size a) = fun _ => 0 := funext fun a => by fin_cases a <;> decide

/-- The staged rows are the device's block of `x`. -/
theorem X_eq (c : Dev nD) : X m c = m ((c : Thread nD τ).loc main_arg0) :=
  Memref.read_access_unit_zero (Elt F) main_arg0 off_x (fun a => by rw [congrFun off_x a]; simp) (m ((c : Thread nD τ).loc main_arg0))

theorem flushed_OV (c : Dev nD) (t : Fin cfg0.N) :
    (dats m ρ 0 c).flushed 1 t = ((cfg0.win 1).blk t).view.read (Elt F) (OV m c) := by
  obtain rfl : t = t0_0 := fin_N0 t
  show (cfg0.win 1).cut (grid0.coords t0_0) (OV m c) = _
  exact (Memref.read_access_unit_zero (Elt F) main_v1 off_o (fun a => by rw [congrFun off_o a]; simp) (OV m c)).symm

/-- The result's array holds the device's columns of the result. -/
theorem final_out (c : Dev nD) : finalA m ρ c (1 : Fin 2) = OV m c :=
  (dats m ρ 0 c).arrAt_eq_of_cover 1 (OV m c) (fun t _ => flushed_OV m ρ c t) fun i =>
    ⟨t0_0, flush0_1 t0_0, by
      show i ∈ ((View.whole main_v1).slice (win0_1.rect t0_0)).set
      rw [View.set_slice_whole, Rect.mem_set_unit]
      intro a
      have h0 : (i 0 : Nat) < 4096 := (i 0).isLt
      have h1 : (i 1 : Nat) < 256 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 4096 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 256 from by decide +kernel]; omega⟩

/-- The kernel runs; its result holds `OV`, its arguments are unchanged, and every semaphore is back at zero. -/
theorem run_values : θ_run defs (onTc (τ := τ) (main (F := F))) (s₀ m ρ) fun r =>
    (∀ c : Dev nD, r.2.mem ((c : Thread nD τ).loc main_v1) = OV m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun _ h => ⟨fun c => ⟨(h.1 c 1).trans (final_out m ρ c), (h.1 c 0).trans (final_x m ρ c), h.2.1 c⟩, h.2.2⟩)
    (run_main m ρ)

end Cert.KernelIdeal.Dist

end
-- ==== Proof.Quant.lean ====
/- The quantiser on extended reals: with a scale taken from a bound on the magnitudes, the kernel's
   scaling, snapping and rescaling of one value equals the reference's. -/
module

public import Idealize.ShloMosaic.PureOps.Ideal

@[expose] public section

noncomputable section

namespace Cert.KernelIdeal.Dist

open Idealize.ShloMosaic

/-- A real number as an extended real. -/
abbrev er (r : ℝ) : EReal := (r : EReal)

/-- What the kernel makes of `a`, a magnitude already divided by the scale. -/
def snapped (a : EReal) : EReal :=
  min (if er (1 / 64) ≤ a then min a (er 448) else (a * er 512 + er 16777216 - er 16777216) * er (1 / 512)) (er 448)
/-- The kernel's value for the product entry `v` at inverse scale `inv` and scale `s`. -/
def kerQ (v inv s : EReal) : EReal :=
  (if v < 0 then 0 - snapped (max v (-v) * inv) else snapped (max v (-v) * inv)) * s
/-- The reference's value for the product entry `v` at scale `s`. -/
def refQ (v s : EReal) : EReal := min (er 448) (max (er (-448)) (Ideal.div v s)) * s

theorem word_448 : Ideal.ofBits .f32 0x43E00000#32 = er 448 := by
  simp [Ideal.ofBits, Ideal.ieee, er, -EReal.coe_mul]; norm_num
theorem word_neg448 : Ideal.ofBits .f32 0xC3E00000#32 = er (-448) := by
  simp [Ideal.ofBits, Ideal.ieee, er, -EReal.coe_mul]; norm_num
theorem word_512 : Ideal.ofBits .f32 0x44000000#32 = er 512 := by
  simp [Ideal.ofBits, Ideal.ieee, er, -EReal.coe_mul]; norm_num
theorem word_magic : Ideal.ofBits .f32 0x4B800000#32 = er 16777216 := by
  simp [Ideal.ofBits, Ideal.ieee, er, -EReal.coe_mul]; norm_num
theorem word_inv512 : Ideal.ofBits .f32 0x3B000000#32 = er (1 / 512) := by
  simp [Ideal.ofBits, Ideal.ieee, er, -EReal.coe_mul]; norm_num
theorem word_inv64 : Ideal.ofBits .f32 0x3C800000#32 = er (1 / 64) := by
  simp [Ideal.ofBits, Ideal.ieee, er, -EReal.coe_mul]; norm_num
theorem word_zero : Ideal.ofBits .f32 0x00000000#32 = 0 := by simp [Ideal.ofBits, Ideal.ieee]
theorem word_bot : Ideal.ofBits .f32 0xFF800000#32 = ⊥ := by simp [Ideal.ofBits, Ideal.ieee]

/-- Division by a real that is not zero. -/
theorem div_er (x : ℝ) {y : ℝ} (h : y ≠ 0) : Ideal.div (er x) (er y) = er (x / y) := by
  unfold Ideal.div
  rw [if_neg (by simpa [er] using h), er, er, ← EReal.coe_inv, ← EReal.coe_mul, div_eq_mul_inv]

/-- Snapping keeps a real magnitude that is within the range. -/
theorem snapped_er {a : ℝ} (h : a ≤ 448) : snapped (er a) = er a := by
  unfold snapped
  have e1 : min (er a) (er 448) = er a := min_eq_left (EReal.coe_le_coe_iff.mpr h)
  have e2 : (er a * er 512 + er 16777216 - er 16777216) * er (1 / 512) = er a := by
    simp only [er, ← EReal.coe_mul, ← EReal.coe_add, ← EReal.coe_sub]
    congr 1; ring
  rw [e1, e2, ite_self, e1]

theorem abs_er (v : ℝ) : max (er v) (-er v) = er |v| := by
  rw [abs_eq_max_neg, er, ← EReal.coe_neg]
  exact (EReal.coe_strictMono.monotone.map_max (a := v) (b := -v)).symm

/-- Where the magnitude is at most `g`, the kernel and the reference agree at the scale `g / 448`. -/
theorem kerQ_eq_refQ {v g : EReal} (h : max v (-v) ≤ g) :
    kerQ v (Ideal.div (er 448) g) (Ideal.div g (er 448)) = refQ v (Ideal.div g (er 448)) := by
  have h448 : (448 : ℝ) ≠ 0 := by norm_num
  have hg0 : 0 ≤ g := by
    refine le_trans ?_ h
    rcases le_total 0 v with hv | hv
    · exact le_max_of_le_left hv
    · exact le_max_of_le_right (by simpa using EReal.neg_le_neg_iff.mpr hv)
  have hz : snapped 0 = 0 := snapped_er (a := 0) (by norm_num)
  induction g with
  | bot => exact absurd hg0 (by simp)
  | top =>
    have e1 : Ideal.div (er 448) ⊤ = 0 := by simp [Ideal.div]
    unfold kerQ refQ
    rw [e1, mul_zero, hz, sub_zero, ite_self, zero_mul]
    have e2 : Ideal.div ⊤ (er 448) = ⊤ := by
      unfold Ideal.div
      rw [if_neg (by simpa [er] using h448), er, ← EReal.coe_inv]
      exact EReal.top_mul_coe_of_pos (by norm_num)
    have e3 : Ideal.div v ⊤ = 0 := by simp [Ideal.div]
    rw [e2, e3]
    have e4 : min (er 448) (max (er (-448)) 0) = 0 := by
      rw [max_eq_right (EReal.coe_nonpos.mpr (by norm_num : (-448 : ℝ) ≤ 0)),
        min_eq_right (EReal.coe_nonneg.mpr (by norm_num : (0 : ℝ) ≤ 448))]
    rw [e4, zero_mul]
  | coe g =>
    rw [show ((g : ℝ) : EReal) = er g from rfl] at h ⊢
    rw [div_er g h448]
    rcases eq_or_ne g 0 with rfl | hg
    · rw [zero_div]
      unfold kerQ refQ
      rw [show er 0 = 0 from rfl, mul_zero, mul_zero]
    · have hgp : 0 < g := lt_of_le_of_ne (EReal.coe_nonneg.mp hg0) hg.symm
      induction v with
      | bot => exact absurd h (by simp [er])
      | top => exact absurd h (by simp [er])
      | coe v =>
        rw [show ((v : ℝ) : EReal) = er v from rfl] at h ⊢
        rw [abs_er] at h
        have hv : |v| ≤ g := EReal.coe_le_coe_iff.mp h
        have ha : |v| * (448 / g) ≤ 448 := by
          calc |v| * (448 / g) ≤ g * (448 / g) := mul_le_mul_of_nonneg_right hv (by positivity)
            _ = 448 := by field_simp
        have hs : g / 448 ≠ 0 := by positivity
        have hb : |v / (g / 448)| ≤ 448 := by
          rw [abs_div, abs_of_pos (by positivity : 0 < g / 448)]
          calc |v| / (g / 448) = |v| * (448 / g) := by field_simp
            _ ≤ 448 := ha
        unfold kerQ refQ
        rw [div_er _ hg, div_er _ hs, abs_er, show er |v| * er (448 / g) = er (|v| * (448 / g)) from (EReal.coe_mul _ _).symm, snapped_er ha]
        rw [max_eq_right (EReal.coe_le_coe_iff.mpr (abs_le.mp hb).1), min_eq_right (EReal.coe_le_coe_iff.mpr (abs_le.mp hb).2)]
        congr 1
        by_cases hn : v < 0
        · rw [if_pos (EReal.coe_neg'.mpr hn), abs_of_neg hn, zero_sub, er, ← EReal.coe_neg]
          congr 1; field_simp
        · rw [if_neg (fun h' => hn (EReal.coe_neg'.mp h')), abs_of_nonneg (not_lt.mp hn)]
          congr 1; field_simp

end Cert.KernelIdeal.Dist

end
-- ==== Proof.Block.lean ====
/- What the body's arithmetic computes, entry by entry, at extended reals: a product block, the largest
   magnitude of a block, the largest magnitude of all devices, and one quantised entry. -/
module

public import proofs.«01_k».proof.Proof.Body
public import proofs.«01_k».proof.Proof.Quant
public import Idealize.ShloMosaic.PureOps.Ideal.Laws
public import Idealize.ShloMosaic.Lib.MatmulPlain
public import Idealize.ShloMosaic.Lib.ValueIdx
public import Idealize.ShloMosaic.Lib.ValueLayout

@[expose] public section

noncomputable section

namespace Cert.KernelIdeal.Dist

open Cert.KernelIdeal.Gen
open Idealize.ShloMosaic Idealize.ShloMosaic.ValueIdx
open scoped BigOperators

/-- A largest-element reduction to a single element is at most `b` when every element is. -/
theorem most_le {s t : Shape} {axes : List (Fin s.rank)} (src : FVec Ideal s .f32) (h : s.Reduces axes t)
    (ht : ∀ a, t.size a = 1) (hφ : FKind.Formats .f32) (hacc : (0xFF800000#32 : BitVec 32) = FKind.maximumf.neutral .f32 hφ)
    (j : t.Idx) (b : EReal) :
    multiReduction .maximumf axes t src 0xFF800000#32 h hφ hacc j ≤ b ↔ ∀ i, src i ≤ b := by
  rw [multiReduction_maximumf_eq_fold, Finset.filter_true_of_mem fun i _ => funext fun a => Fin.ext (by
    have := (h.drop i a).isLt; have := (j a).isLt; have := ht a; omega)]
  refine (Finset.fold_max_le (s := Finset.univ) (f := src) (b := Ideal.ofBits .f32 0xFF800000#32) b).trans ?_
  rw [word_bot]
  exact ⟨fun hh i => hh.2 i (Finset.mem_univ i), fun hh => ⟨bot_le, fun i _ => hh i⟩⟩

/-- A bound on every element of a reshaped array is a bound on every element of the array. -/
theorem all_cast {s t : Shape} (y : s.Idx → EReal) (h : s.ShapeCasts t) (b : EReal) :
    (∀ i, shapeCast t y h i ≤ b) ↔ ∀ i, y i ≤ b := by
  unfold shapeCast
  exact ((Shape.reshapeEquiv h).surjective.forall (p := fun i => y i ≤ b)).symm

/-- The magnitude of an extended real. -/
abbrev mag (v : EReal) : EReal := max v (-v)

/-- The product of a staged block of rows and a loaded block of columns. -/
def prodV (x : Vec Ideal S128x4096 .f32) (w : Vec Ideal S1x4096x256 .f32) : S128x256.Idx → EReal := k0_pay5 x w

theorem dot_plain : dot_S128x4096_S4096x256_S128x256_1_0_0_1_n_n = DotDims.plain 128 4096 256 := rfl

/-- An entry of the product block. -/
theorem prodV_apply (x : Vec Ideal S128x4096 .f32) (w : Vec Ideal S1x4096x256 .f32) (i : Fin 128) (j : Fin 256) :
    prodV x w (ix2 i j) = ∑ k : Fin 4096, x (ix2 i k) * w (ix3 (0 : Fin 1) k j) := by
  unfold prodV k0_pay5
  rw [dot_plain]
  refine (Ideal.matmul_plain_apply _ _ _ _ i j).trans ?_
  rw [constant_apply, word_zero, zero_add]
  refine Finset.sum_congr rfl fun k _ => ?_
  rw [shapeCast_1ab_ab_apply, shapeCast_apply x _ (ix2 i k) (ix2 i k) rfl]

/-- The block a device sends is the product block. -/
theorem sndV_apply (x : Vec Ideal S128x4096 .f32) (w : Vec Ideal S1x4096x256 .f32) (i : Fin 128) (j : Fin 256) :
    sndV x w (ix3 (0 : Fin 1) i j) = prodV x w (ix2 i j) := by
  unfold sndV k0_pay7
  rw [shapeCast_apply _ _ (ix3 (0 : Fin 1) i j) (ix3 (0 : Fin 1) i j) rfl, shapeCast_ab_1ab_apply]
  rfl

/-- The running largest magnitude is at most `b` when it was and the block's magnitudes are. -/
theorem maxV_le (a : EReal) (x : Vec Ideal S128x4096 .f32) (w : Vec Ideal S1x4096x256 .f32) (b : EReal) :
    (maxV (F := Ideal) a x w : EReal) ≤ b ↔ a ≤ b ∧ ∀ i, mag (prodV x w i) ≤ b := by
  refine (max_le_iff (α := EReal)).trans (and_congr Iff.rfl ?_)
  refine (most_le _ _ (by decide) (.inl rfl) rfl _ b).trans ?_
  exact all_cast (absf (k0_pay5 x w)) _ b

/-- The largest of all the magnitudes is at most `b` when each of them is. -/
theorem pay109_le (v : Vec Ideal S32x8x128 .f32) (b : EReal) :
    (k0_pay109 (F := Ideal) v : EReal) ≤ b ↔ ∀ i, v i ≤ b := by
  refine (most_le _ _ (by decide) (.inl rfl) rfl _ b).trans ?_
  exact all_cast v _ b

theorem sc_eq (v : Vec Ideal S32x8x128 .f32) : k0_pay110 (F := Ideal) v = Ideal.div (k0_pay109 v) (er 448) := by
  show Ideal.div (k0_pay109 v) (Ideal.ofBits .f32 0x43E00000#32) = _
  rw [word_448]
theorem inv_eq (v : Vec Ideal S32x8x128 .f32) : k0_pay111 (F := Ideal) v = Ideal.div (er 448) (k0_pay109 v) := by
  unfold k0_pay111
  generalize k0_pay109 (F := Ideal) v = g
  show Ideal.div (Ideal.ofBits .f32 0x43E00000#32) g = _
  rw [word_448]

/-- Choosing by a comparison. -/
theorem select_ge (x y a b : EReal) : Scalar.select (Ideal.cmp .oge x y) a b = if y ≤ x then a else b := by
  by_cases h : y ≤ x
  · rw [if_pos h, show Ideal.cmp .oge x y = 1#1 from by simp [Ideal.cmp, h], select_one]
  · rw [if_neg h, show Ideal.cmp .oge x y = 0#1 from by simp [Ideal.cmp, h], select_zero]
theorem select_lt (x y a b : EReal) : Scalar.select (Ideal.cmp .olt x y) a b = if x < y then a else b := by
  by_cases h : x < y
  · rw [if_pos h, show Ideal.cmp .olt x y = 1#1 from by simp [Ideal.cmp, h], select_one]
  · rw [if_neg h, show Ideal.cmp .olt x y = 0#1 from by simp [Ideal.cmp, h], select_zero]

/-- One quantised entry of a received block. -/
theorem snapV_apply (s inv : EReal) (v : Vec Ideal S1x128x256 .bf16) (i : Fin 128) (j : Fin 256) :
    snapV (F := Ideal) s inv v (ix2 i j) = kerQ (v (ix3 (0 : Fin 1) i j)) inv s := by
  have e : shapeCast S128x256 v shapeCasts_S1x128x256_S128x256 (ix2 i j) = v (ix3 (0 : Fin 1) i j) := shapeCast_1ab_ab_apply _ _ _ _
  unfold kerQ snapped
  rw [← e, ← word_448, ← word_512, ← word_magic, ← word_inv512, ← word_inv64, ← select_ge, ← select_lt, ← word_zero]
  rfl

end Cert.KernelIdeal.Dist

end
-- ==== Proof.Ref.lean ====
/- The reference's result: each entry of the whole product, quantised at the scale that the largest
   magnitude of the whole product gives. -/
module

public import proofs.«01_k».proof.Proof.Block
public import proofs.«01_k».proof.Proof.Gen.ReferenceIdeal.Value

@[expose] public section

noncomputable section

namespace Cert.ReferenceIdeal.Dist

open Cert.ReferenceIdeal.Gen
open Cert.KernelIdeal.Dist (er mag refQ most_le all_cast word_448 word_neg448)
open Idealize.ShloMosaic Idealize.ShloMosaic.TcCoe Idealize.ShloMosaic.ValueIdx Idealize.SL.Sem
open scoped BigOperators

/-- The whole product. -/
def prod (A : S4096x4096.Idx → EReal) (B : S4096x8192.Idx → EReal) : S4096x8192.Idx → EReal :=
  Host.dotGeneral (F := Ideal) (φ₁ := .f32) (φ₂ := .f32) dot_S4096x4096_S4096x8192_S4096x8192_1_0_0_1_n_n none A B

theorem dot_plain : dot_S4096x4096_S4096x8192_S4096x8192_1_0_0_1_n_n = DotDims.plain 4096 4096 8192 := rfl

/-- An entry of the whole product. -/
theorem prod_apply (A : S4096x4096.Idx → EReal) (B : S4096x8192.Idx → EReal) (r : Fin 4096) (c : Fin 8192) :
    prod A B (ix2 r c) = ∑ k : Fin 4096, A (ix2 r k) * B (ix2 k c) := by
  unfold prod
  rw [dot_plain]
  refine (Ideal.matmul_plain_apply (φ₁ := .f32) (φ₂ := .f32) none A B (fun _ => (0 : EReal)) r c).trans ?_
  exact zero_add _

/-- The largest magnitude of an array. -/
def top (y : Vec Ideal S4096x8192 .f32) : Ideal .f32 :=
  extractAt ![0, 0, 0] (shapeCast S1x1x1 (multiReduction (F := Ideal) .maximumf [1, 2] S1
    (shapeCast S1x4096x8192 (absf (shapeCast S4096x8192 y shapeCasts_S4096x8192_S4096x8192)) shapeCasts_S4096x8192_S1x4096x8192)
    0xFF800000#32 reduces_S1x4096x8192_S1 (.inl rfl) rfl) shapeCasts_S1_S1x1x1) inpos_S1x1x1_p0_0_0

theorem top_le (y : Vec Ideal S4096x8192 .f32) (b : EReal) : top y ≤ b ↔ ∀ i, mag (y i) ≤ b := by
  refine (most_le _ _ (by decide) (.inl rfl) rfl _ b).trans ?_
  refine (all_cast (absf (F := Ideal) (s := S4096x8192) (φ := .f32) (shapeCast S4096x8192 y shapeCasts_S4096x8192_S4096x8192)) _ b).trans ?_
  exact all_cast (fun i => mag (y i)) shapeCasts_S4096x8192_S4096x8192 b

/-- The payload the reference stores, entry by entry. -/
theorem pay_apply (y : Vec Ideal S4096x8192 .f32) (i : S4096x8192.Idx) :
    k0_pay1 (F := Ideal) y i = refQ (y i) (Ideal.div (top y) (er 448)) := by
  have e : shapeCast S4096x8192 y shapeCasts_S4096x8192_S4096x8192 i = y i := shapeCast_apply _ _ _ _ rfl
  have h : k0_pay1 (F := Ideal) y i
      = min (Ideal.ofBits .f32 0x43E00000#32) (max (Ideal.ofBits .f32 0xC3E00000#32)
          (Ideal.div (shapeCast S4096x8192 y shapeCasts_S4096x8192_S4096x8192 i) (Ideal.div (top y) (Ideal.ofBits .f32 0x43E00000#32))))
        * Ideal.div (top y) (Ideal.ofBits .f32 0x43E00000#32) := by
    unfold k0_pay1 top
    generalize extractAt ![0, 0, 0] (shapeCast S1x1x1 (multiReduction (F := Ideal) .maximumf [1, 2] S1
      (shapeCast S1x4096x8192 (absf (shapeCast S4096x8192 y shapeCasts_S4096x8192_S4096x8192)) shapeCasts_S4096x8192_S1x4096x8192)
      0xFF800000#32 reduces_S1x4096x8192_S1 (.inl rfl) rfl) shapeCasts_S1_S1x1x1) inpos_S1x1x1_p0_0_0 = g
    rfl
  rw [h, e, word_448, word_neg448]
  rfl

variable (m : (ℓ : Loc nD τ sig) → Buf (Elt Ideal) ℓ) (ρ : Dev nD → PrngReg)

/-- The host product, where the kernel finds it. -/
theorem V_prod (c : Dev nD) : V m c main_v0 = prod (m ((c : Thread nD τ).loc main_arg0)) (m ((c : Thread nD τ).loc main_arg1)) := by
  show StableHlo.after hostOps0 _ _ = _
  unfold hostOps0
  rw [StableHlo.after_cons, StableHlo.after_nil, StableHlo.binary_result]
  rfl

/-- The result. -/
def result (c : Dev nD) : Buf (Elt Ideal) ((c : Thread nD τ).loc main_v1) :=
  k0_pay1 (F := Ideal) (prod (m ((c : Thread nD τ).loc main_arg0)) (m ((c : Thread nD τ).loc main_arg1)))

theorem off_in : (fun a => win0_0.index t0_0 a * main_v0.ty.shape.size a) = fun _ => 0 := funext fun a => by fin_cases a <;> decide
theorem off_out : (fun a => win0_1.index t0_0 a * main_v1.ty.shape.size a) = fun _ => 0 := funext fun a => by fin_cases a <;> decide

/-- What the kernel reads is the whole product. -/
theorem iblk_prod (c : Dev nD) : iblk m c 0 t0_0 = prod (m ((c : Thread nD τ).loc main_arg0)) (m ((c : Thread nD τ).loc main_arg1)) := by
  rw [← V_prod]
  exact Memref.read_access_unit_zero (Elt Ideal) main_v0 off_in (fun a => by rw [congrFun off_in a]; simp) (V m c main_v0)

theorem out_eq (x : Vec Ideal S4096x8192 .f32) : out0_1 x = k0_pay1 (F := Ideal) x := by
  have hz : (![0, 0] : Fin 2 → ℕ) = fun _ => 0 := funext fun a => by fin_cases a <;> rfl
  unfold out0_1
  rw [View.canon_unit_zero hz, View.ld_unit_zero hz]

theorem flushed_result (c : Dev nD) (t : Fin cfg0.N) :
    (dats m 0 c).flushed 1 t = ((cfg0.win 1).blk t).view.read (Elt Ideal) (result m c) := by
  obtain rfl : t = t0_0 := fin_N0 t
  rw [Value.flushed1, iblk_prod, out_eq]
  exact (Memref.read_access_unit_zero (Elt Ideal) main_v1 off_out (fun a => by rw [congrFun off_out a]; simp) (result m c)).symm

theorem final_result (c : Dev nD) : (dats m 0 c).arrAt 1 cfg0.N = result m c :=
  (dats m 0 c).arrAt_eq_of_cover 1 (result m c) (fun t _ => flushed_result m c t) fun i =>
    ⟨t0_0, flush0_1 t0_0, by
      show i ∈ ((View.whole main_v1).slice (win0_1.rect t0_0)).set
      rw [View.set_slice_whole, Rect.mem_set_unit]
      intro a
      have h0 : (i 0 : Nat) < 4096 := (i 0).isLt
      have h1 : (i 1 : Nat) < 8192 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 4096 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 8192 from by decide +kernel]; omega⟩

/-- The reference runs; its result is `result`, its arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_result m c), (h c).2⟩) (Value.run_blocks m ρ)

end Cert.ReferenceIdeal.Dist

end
-- ==== Proof.Equal.lean ====
/- The equation: when device `c` holds row block `c` of `x` and the whole of `w`, its result is column block
   `c` of the reference's. -/
module

public import proofs.«01_k».proof.Proof.Result
public import proofs.«01_k».proof.Proof.Ref

@[expose] public section

noncomputable section

namespace Cert.KernelIdeal.Dist

open Cert.KernelIdeal.Gen
open Idealize.ShloMosaic Idealize.ShloMosaic.TcCoe Idealize.ShloMosaic.ValueIdx
open Idealize.SL Idealize.SL.Sem
open Cert.ReferenceIdeal.Dist (prod prod_apply top top_le pay_apply)
open scoped BigOperators

variable (m : (ℓ : Loc nD τ sig) → Buf (Elt Ideal) ℓ)

/-- Device `c` holds row block `c` of `A`, and all of `B`. -/
def Holds (A : Cert.ReferenceIdeal.S4096x4096.Idx → EReal) (B : Cert.ReferenceIdeal.S4096x8192.Idx → EReal) : Prop :=
  ∀ c : Dev nD, m ((c : Thread nD τ).loc main_arg0) = Layout.block ⟨2, ![128, 4096]⟩ ⟨2, ![4096, 4096]⟩ 0 32 c A
    ∧ m ((c : Thread nD τ).loc main_arg1) = B

/-- Row `i` of row block `s`, and column `j` of column block `p`. -/
def row (s : Dev nD) (i : Fin 128) : Fin 4096 := ⟨s.val * 128 + i.val, by have : s.val < 32 := s.isLt; omega⟩
def col (p : Dev nD) (j : Fin 256) : Fin 8192 := ⟨p.val * 256 + j.val, by have : p.val < 32 := p.isLt; omega⟩

theorem row_of (r : Fin 4096) : ∃ s i, row s i = r :=
  ⟨⟨r.val / 128, by show _ < 32; omega⟩, ⟨r.val % 128, by omega⟩, Fin.ext (by simp only [row]; omega)⟩
theorem col_of (r : Fin 8192) : ∃ p j, col p j = r :=
  ⟨⟨r.val / 256, by show _ < 32; omega⟩, ⟨r.val % 256, by omega⟩, Fin.ext (by simp only [col]; omega)⟩

variable {m} {A : Cert.ReferenceIdeal.S4096x4096.Idx → EReal} {B : Cert.ReferenceIdeal.S4096x8192.Idx → EReal}

theorem X_apply (H : Holds m A B) (s : Dev nD) (i : Fin 128) (k : Fin 4096) : X m s (ix2 i k) = A (ix2 (row s i) k) := by
  rw [X_eq, (H s).1]
  show A _ = A _
  congr 1
  funext a
  refine Fin.ext ?_
  match a with
  | ⟨0, _⟩ => rfl
  | ⟨1, _⟩ => rfl

theorem wb_apply (H : Holds m A B) (s p : Dev nD) (k : Fin 4096) (j : Fin 256) : wb m s p (ix3 0 k j) = B (ix2 k (col p j)) := by
  show m ((s : Thread nD τ).loc main_arg1) _ = _
  rw [(H s).2]
  congr 1
  funext a
  refine Fin.ext ?_
  match a with
  | ⟨0, _⟩ => show 0 + 1 * k.val = k.val; omega
  | ⟨1, _⟩ => show 256 * p.val + 1 * j.val = p.val * 256 + j.val; omega

/-- Each product block is a block of the whole product. -/
theorem block_apply (H : Holds m A B) (s p : Dev nD) (i : Fin 128) (j : Fin 256) :
    prodV (X m s) (wb m s p) (ix2 i j) = prod A B (ix2 (row s i) (col p j)) := by
  rw [prodV_apply, prod_apply]
  exact Finset.sum_congr rfl fun k _ => by rw [X_apply H, wb_apply H]

theorem mag_nonneg (v : EReal) : 0 ≤ mag v := by
  rcases le_total 0 v with h | h
  · exact le_max_of_le_left h
  · exact le_max_of_le_right (EReal.neg_nonneg.mpr h)

/-- A running largest magnitude is bounded when its start and every block it takes are. -/
theorem fold_le (c : Dev nD) (b : EReal) (l : List (Fin 31)) (a : EReal) :
    (l.foldl (stepA m c) a : EReal) ≤ b ↔ a ≤ b ∧ ∀ r ∈ l, ∀ i, mag (prodV (X m c) (wb m c (pr c r)) i) ≤ b := by
  induction l generalizing a with
  | nil => simp
  | cons r l ih =>
    rw [List.foldl_cons, ih, List.forall_mem_cons]
    show maxV a (X m c) (wb m c (pr c r)) ≤ b ∧ _ ↔ _
    rw [maxV_le, and_assoc]

theorem near_all (r : Fin 31) : r ∈ near := List.mem_of_getElem? (near_at r)

/-- Device `c`'s largest magnitude is bounded when every entry of its rows of the product is. -/
theorem Amax_le (c : Dev nD) (b : EReal) :
    (Amax m c : EReal) ≤ b ↔ 0 ≤ b ∧ ∀ p i, mag (prodV (X m c) (wb m c p) i) ≤ b := by
  unfold Amax
  rw [fold_le]
  have h0 : (A0 m c : EReal) ≤ b ↔ 0 ≤ b ∧ ∀ i, mag (prodV (X m c) (wb m c c) i) ≤ b := by
    show maxV (Ideal.ofBits .f32 0x00000000#32) (X m c) (wb m c c) ≤ b ↔ _
    rw [maxV_le, word_zero]
  rw [h0]
  constructor
  · rintro ⟨⟨hb, hc⟩, h⟩
    refine ⟨hb, fun p => ?_⟩
    by_cases e : p = c
    · subst e; exact hc
    · obtain ⟨r, rfl⟩ := exists_pr e
      exact h r (near_all r)
  · rintro ⟨hb, h⟩
    exact ⟨⟨hb, h c⟩, fun r _ => h _⟩

/-- The largest of all the devices' magnitudes is the largest magnitude of the whole product. -/
theorem most_eq (H : Holds m A B) : (k0_pay109 (F := Ideal) (AV m) : EReal) = top (prod A B) := by
  refine eq_of_forall_ge_iff fun b => ?_
  rw [pay109_le]
  refine Iff.trans ?_ (top_le (prod A B) b).symm
  constructor
  · intro h i
    obtain ⟨s, i0, e0⟩ := row_of (i 0)
    obtain ⟨p, j0, e1⟩ := col_of (i 1)
    have h0 : (Amax m s : EReal) ≤ b := h (ix3 (n0 := 32) (n1 := 8) (n2 := 128) s 0 0)
    have hs := ((Amax_le s b).mp h0).2 p (ix2 i0 j0)
    rw [block_apply H, e0, e1] at hs
    rw [eq_ix2 i]
    exact hs
  · intro h i
    refine (Amax_le (i 0) b).mpr ⟨(mag_nonneg _).trans (h (ix2 0 0)), fun p j => ?_⟩
    rw [eq_ix2 j]
    exact (congrArg mag (block_apply H (i 0) p (j 0) (j 1))).trans_le (h _)

/-- An entry of a device's result is the reference's entry at the same place of the whole array. -/
theorem OV_apply (H : Holds m A B) (c : Dev nD) (s : Dev nD) (i : Fin 128) (j : Fin 256) :
    snapV (sc0 m) (sc1 m) (BLK m s c) (ix2 i j) = Cert.ReferenceIdeal.Gen.k0_pay1 (F := Ideal) (prod A B) (ix2 (row s i) (col c j)) := by
  rw [pay_apply, snapV_apply]
  have hb : BLK m s c (ix3 0 i j) = prod A B (ix2 (row s i) (col c j)) := (sndV_apply _ _ i j).trans (block_apply H s c i j)
  have h0 : sc0 m = Ideal.div (top (prod A B)) (er 448) := by rw [← most_eq H]; exact sc_eq _
  have h1 : sc1 m = Ideal.div (er 448) (top (prod A B)) := by rw [← most_eq H]; exact inv_eq _
  rw [hb, h0, h1]
  exact kerQ_eq_refQ ((top_le (prod A B) _).mp le_rfl _)

/-- A device's result is its block of columns of the reference's. -/
theorem OV_block (H : Holds m A B) (c : Dev nD) :
    OV m c = Layout.block ⟨2, ![4096, 256]⟩ ⟨2, ![4096, 8192]⟩ 1 32 c (Cert.ReferenceIdeal.Gen.k0_pay1 (F := Ideal) (prod A B)) := by
  funext i
  have hi : (i 0).val < 4096 := (i 0).isLt
  refine (congrArg (snapV (sc0 m) (sc1 m) (BLK m ⟨(i 0).val / 128, by show _ < 32; omega⟩ c))
    (a₂ := ix2 ⟨(i 0).val % 128, Nat.mod_lt _ (by decide)⟩ (i 1)) (funext fun a => match a with | ⟨0, _⟩ => rfl | ⟨1, _⟩ => rfl)).trans ?_
  refine (OV_apply H c _ _ _).trans ?_
  show Cert.ReferenceIdeal.Gen.k0_pay1 (F := Ideal) (prod A B) _ = Cert.ReferenceIdeal.Gen.k0_pay1 (F := Ideal) (prod A B) _
  congr 1
  funext a
  refine Fin.ext ?_
  match a with
  | ⟨0, _⟩ => show (i 0).val / 128 * 128 + (i 0).val % 128 = (i 0).val; omega
  | ⟨1, _⟩ => rfl

end Cert.KernelIdeal.Dist

end
-- ==== Proof.Same.lean ====
/- The kernel and the idealised kernel are one text: their tables of bodies are equal. -/
module

public import proofs.«01_k».proof.Defs
public import proofs.«01_k».proof.Proof.Gen.Kernel
public import proofs.«01_k».proof.Proof.Gen.KernelIdeal

@[expose] public section

noncomputable section

namespace Cert.Kernel.Same

open Idealize.ShloMosaic

attribute [local instance] Cert.Kernel.Gen.facts Cert.KernelIdeal.Gen.facts

/-- The bodies agree at every label. -/
theorem bodies_eq : Cert.Kernel.defs₀ (F := Bits) = Cert.KernelIdeal.defs₀ := by
  unfold Cert.Kernel.defs₀ Cert.KernelIdeal.defs₀
  refine congrArg (fun D => Defs.onTc (nD := 32) (τ := Cert.KernelIdeal.τ) (sig := Cert.KernelIdeal.sig) (Val := Elt Bits)
    (Λ := Cert.KernelIdeal.Λ₀) D) ?_
  funext l a
  match l, a with
  | 0, (t, s) => rfl

/-- The whole tables agree. -/
theorem defs_eq : Cert.Kernel.defs (F := Bits) = Cert.KernelIdeal.defs := by
  unfold Cert.Kernel.defs Cert.KernelIdeal.defs
  exact congrArg _ bodies_eq

end Cert.Kernel.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Equal
public import proofs.«01_k».proof.Proof.Same
public import Idealize.ShloMosaic.Adequacy
public import Idealize.ShloMosaic.Init

@[expose] public section

noncomputable section

namespace Cert.Proof

open Idealize.ShloMosaic Idealize.SL.Sem Cert.Kernel

/-- Over any float values the kernel runs to the end, leaves its arguments unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0 :=
  (θ_run Cert.KernelIdeal.defs _ _).mono (fun _ h => ⟨fun c => (h.1 c).2, h.2⟩) (Cert.KernelIdeal.Dist.run_values m ρ)

/-- The kernel at words of bits: its text is the idealised kernel's. -/
theorem frame_kernel : Cert.quiescent_Kernel := fun m ρ _ =>
  Eq.mpr (congrArg (fun D => (θ_run D (onTc (τ := Cert.KernelIdeal.τ) (Cert.KernelIdeal.main (F := Bits))) ⟨m, fun _ => 0, ρ⟩) _)
    Cert.Kernel.Same.defs_eq) (frame_any (F := Bits) m ρ)

/-- The kernel over the extended reals. -/
theorem frame_ideal : Cert.quiescent_KernelIdeal := fun m ρ _ => frame_any (F := Ideal) m ρ

/-- Device `c`'s result is column block `c` of the reference's, when it is given row block `c` of `x` and all of `w`. -/
theorem values : Cert.algebraic_KernelIdeal_ReferenceIdeal := fun m ρ m' ρ' _ H =>
  ⟨Cert.ReferenceIdeal.Dist.result m' 0,
    (θ_run Cert.KernelIdeal.defs _ _).mono
      (fun _ h c => ⟨(h.1 c).1.trans (Cert.KernelIdeal.Dist.OV_block H c), (h.1 c).2⟩)
      (Cert.KernelIdeal.Dist.run_values (F := Ideal) m ρ),
    (θ_run Cert.ReferenceIdeal.defs _ _).mono (fun _ h => h 0) (Cert.ReferenceIdeal.Dist.run m' ρ')⟩

/-- All five claims. -/
theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, values⟩

end Cert.Proof

end
